-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![2048, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S2048x128 : Shape := ⟨2, ![2048, 128]⟩
abbrev S7 : Shape := ⟨1, ![7]⟩
abbrev S_ : Shape := ⟨0, ![]⟩
abbrev S256x1 : Shape := ⟨2, ![256, 1]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x1x1 : Shape := ⟨3, ![16, 1, 1]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S8x1x1 : Shape := ⟨3, ![8, 1, 1]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S4x1x1 : Shape := ⟨3, ![4, 1, 1]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S2x1x1 : Shape := ⟨3, ![2, 1, 1]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S1x1x1 : Shape := ⟨3, ![1, 1, 1]⟩
abbrev S1 : Shape := ⟨1, ![1]⟩
abbrev S512x128 : Shape := ⟨2, ![512, 128]⟩
abbrev S512x1 : Shape := ⟨2, ![512, 1]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S508x128 : Shape := ⟨2, ![508, 128]⟩
abbrev S510x128 : Shape := ⟨2, ![510, 128]⟩
abbrev S511x128 : Shape := ⟨2, ![511, 128]⟩
abbrev S1024x128 : Shape := ⟨2, ![1024, 128]⟩
abbrev S1024x1 : Shape := ⟨2, ![1024, 1]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S1020x128 : Shape := ⟨2, ![1020, 128]⟩
abbrev S1022x128 : Shape := ⟨2, ![1022, 128]⟩
abbrev S1023x128 : Shape := ⟨2, ![1023, 128]⟩

abbrev nBuf : Space → Nat
  | .hbm => 2
  | .vmem => 4
  | .smem => 0
  | _ => 0

abbrev bufTy : (tb : Table) → Fin (tcTables nBuf tb) → BufTy
  | .hbm, ⟨0, _⟩ => ⟨S256x128, .bf16⟩
  | .hbm, ⟨1, _⟩ => ⟨S256x128, .f32⟩
  | .local _ .vmem, ⟨0, _⟩ => ⟨S256x128, .bf16⟩
  | .local _ .vmem, ⟨1, _⟩ => ⟨S256x128, .f32⟩
  | .local _ .vmem, ⟨2, _⟩ => ⟨S2048x128, .bf16⟩
  | .local _ .vmem, ⟨3, _⟩ => ⟨S2048x128, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v1155 : BitVec 32 := Scalar.xori v2 c1_i32_243
  let c1_i32_246 : BitVec 32 := 1#32
  let v1156 : BitVec 32 := Scalar.muli v1155 c1_i32_246
  let v1157 : BitVec 32 := Scalar.addi c0_i32_247 v1156
  v1157.toNat
def k0_dev9 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_252 : BitVec 32 := 2#32
  let v1164 : BitVec 32 := Scalar.xori v2 c2_i32_252
  let c1_i32_255 : BitVec 32 := 1#32
  let v1165 : BitVec 32 := Scalar.muli v1164 c1_i32_255
  let v1166 : BitVec 32 := Scalar.addi c0_i32_256 v1165
  v1166.toNat
def k0_dev10 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_260 : BitVec 32 := 3#32
  let v1173 : BitVec 32 := Scalar.xori v2 c3_i32_260
  let c1_i32_263 : BitVec 32 := 1#32
  let v1174 : BitVec 32 := Scalar.muli v1173 c1_i32_263
  let v1175 : BitVec 32 := Scalar.addi c0_i32_264 v1174
  v1175.toNat
def k0_dev11 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_268 : BitVec 32 := 4#32
  let v1182 : BitVec 32 := Scalar.xori v2 c4_i32_268
  let c1_i32_271 : BitVec 32 := 1#32
  let v1183 : BitVec 32 := Scalar.muli v1182 c1_i32_271
  let v1184 : BitVec 32 := Scalar.addi c0_i32_272 v1183
  v1184.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_276 : BitVec 32 := 5#32
  let v1191 : BitVec 32 := Scalar.xori v2 c5_i32_276
  let c1_i32_279 : BitVec 32 := 1#32
  let v1192 : BitVec 32 := Scalar.muli v1191 c1_i32_279
  let v1193 : BitVec 32 := Scalar.addi c0_i32_280 v1192
  v1193.toNat
def k0_dev13 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_284 : BitVec 32 := 6#32
  let v1200 : BitVec 32 := Scalar.xori v2 c6_i32_284
  let c1_i32_287 : BitVec 32 := 1#32
  let v1201 : BitVec 32 := Scalar.muli v1200 c1_i32_287
  let v1202 : BitVec 32 := Scalar.addi c0_i32_288 v1201
  v1202.toNat
def k0_dev14 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_292 : BitVec 32 := 7#32
  let v1209 : BitVec 32 := Scalar.xori v2 c7_i32_292
  let c1_i32_295 : BitVec 32 := 1#32
  let v1210 : BitVec 32 := Scalar.muli v1209 c1_i32_295
  let v1211 : BitVec 32 := Scalar.addi c0_i32_296 v1210
  v1211.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x128, .f32⟩
  | .hbm, ⟨2, _⟩ => ⟨S2048x128, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stage.lean ====
/- The compare-exchange stages of the kernel, written once for any number of rows: a stage that
   pairs nearby rows by rotating the array, and a stage that pairs distant rows by regrouping it. The
   whole sort, the merges and the last selection are compositions of these stages. -/
module

public import proofs.«01_k».proof.Proof.Gen.KernelIdeal.Skeleton
public import Idealize.ShloMosaic.Lib.ShapeFacts

@[expose] public section

noncomputable section

namespace Cert.KernelIdeal.Own

open Idealize.ShloMosaic Cert.KernelIdeal Cert.KernelIdeal.Gen

variable {F : FTy → Type} [FloatOps F]

/-! ## Shapes -/

/-- `L` rows of 128 lanes. -/
abbrev rows (L : ℕ) : Shape := ⟨2, ![L, 128]⟩
/-- One flag a row. -/
abbrev flags (L : ℕ) : Shape := ⟨2, ![L, 1]⟩
/-- `b` groups of two runs of `j` rows. -/
abbrev pairs (b j : ℕ) : Shape := ⟨4, ![b, 2, j, 128]⟩
/-- `b` groups of one run of `j` rows. -/
abbrev single (b j : ℕ) : Shape := ⟨4, ![b, 1, j, 128]⟩
/-- `b` runs of `j` rows. -/
abbrev runs (b j : ℕ) : Shape := ⟨3, ![b, j, 128]⟩
/-- One flag a group. -/
abbrev groupFlags (b : ℕ) : Shape := ⟨3, ![b, 1, 1]⟩

theorem iota_flags (L : ℕ) : (flags L).Iotas .tc 32 [0] :=
  ⟨by simp, fun _ => ⟨.inr rfl, le_refl 2⟩, fun h => absurd rfl h⟩

theorem iota_groups (b : ℕ) : (groupFlags b).Iotas .tc 32 [0] :=
  ⟨by simp, fun _ => ⟨.inr rfl, show 2 ≤ 3 by omega⟩, fun h => absurd rfl h⟩

theorem bcast_self (s : Shape) : s.Broadcasts s :=
  ⟨le_refl _, fun a => .inr fun h => congrArg s.size (Fin.ext (by simp))⟩

theorem bcast_rows (L : ℕ) : (flags L).Broadcasts (rows L) :=
  ⟨le_refl 2, fun a => match a with
    | ⟨0, _⟩ => .inr fun _ => rfl
    | ⟨1, _⟩ => .inl rfl⟩

theorem bcast_runs (b j : ℕ) : (groupFlags b).Broadcasts (runs b j) :=
  ⟨le_refl 3, fun a => match a with
    | ⟨0, _⟩ => .inr fun _ => rfl
    | ⟨1, _⟩ => .inl rfl
    | ⟨2, _⟩ => .inl rfl⟩

theorem slices_rows {L o r : ℕ} (h : o + r ≤ L) : (rows L).Slices ![o, 0] (rows r) :=
  ⟨rfl, fun a => match a with
    | ⟨0, _⟩ => h
    | ⟨1, _⟩ => le_refl 128⟩

theorem slices_pair {b j o : ℕ} (h : o + 1 ≤ 2) : (pairs b j).Slices ![0, o, 0, 0] (single b j) :=
  ⟨rfl, fun a => match a with
    | ⟨0, _⟩ => by simp
    | ⟨1, _⟩ => h
    | ⟨2, _⟩ => by simp
    | ⟨3, _⟩ => by simp⟩

theorem concat_rows {L p q : ℕ} (h : p + q = L) : Shape.Concatenates [rows p, rows q] (rows L) 0 := by
  refine ⟨le_refl 2, fun s hs => ?_, ?_⟩
  · rcases List.mem_cons.1 hs with rfl | hs
    · exact ⟨rfl, fun b hb => match b, hb with | ⟨1, _⟩, _ => rfl⟩
    · rcases List.mem_cons.1 hs with rfl | hs
      · exact ⟨rfl, fun b hb => match b, hb with | ⟨1, _⟩, _ => rfl⟩
      · exact absurd hs List.not_mem_nil
  · exact h

theorem concat_pairs (b j : ℕ) : Shape.Concatenates [single b j, single b j] (pairs b j) 1 :=
  Shape.concatenates_axis1_rank4 _ _ _ _ _

theorem casts_pairs {L b j : ℕ} (h : b * (2 * j) = L) : (rows L).ShapeCasts (pairs b j) := by
  subst h; simp [Shape.ShapeCasts, Shape.numel, Fin.prod_univ_succ, Nat.mul_assoc]

theorem casts_single (b j : ℕ) : (single b j).ShapeCasts (runs b j) := by
  simp [Shape.ShapeCasts, Shape.numel, Fin.prod_univ_succ]

/-! ## Stages -/

/-- Whether bit `j` of the row number is set. -/
def bitSet (L j : ℕ) : IVec (flags L) 1 :=
  cmpi .ne (andi (iota .tc (flags L) 32 [0] (iota_flags L)) (broadcast (flags L) (BitVec.ofNat 32 j)))
    (broadcast (flags L) 0#32)

/-- Row `i`'s partner `i ± j`, taken from the array rotated up or down by `j`. -/
def rotated (L j r : ℕ) (h : r + j = L) (X : FVec F (rows L) .bf16) : FVec F (rows L) .bf16 :=
  let up := concatenate (rows L) 0
    [⟨rows r, extractStridedSlice (rows r) ![j, 0] X (slices_rows (by omega))⟩,
     ⟨rows j, extractStridedSlice (rows j) ![0, 0] X (slices_rows (by omega))⟩] (concat_rows h)
  let dn := concatenate (rows L) 0
    [⟨rows j, extractStridedSlice (rows j) ![r, 0] X (slices_rows (by omega))⟩,
     ⟨rows r, extractStridedSlice (rows r) ![0, 0] X (slices_rows (by omega))⟩] (concat_rows (by omega))
  select (broadcastTo (rows L) (shapeCast (flags L) (bitSet L j) rfl) (bcast_rows L)) dn up

/-- A stage over nearby rows: the flagged rows keep the lesser entry, the others the greater. -/
def near (L j r : ℕ) (h : r + j = L) (mask : IVec (flags L) 1) (X : FVec F (rows L) .bf16) : FVec F (rows L) .bf16 :=
  select (broadcastTo (rows L) (shapeCast (flags L) mask rfl) (bcast_rows L))
    (minimumf X (rotated L j r h X)) (maximumf X (rotated L j r h X))

/-- The flags of a sorting stage: in a run of `k` rows that is to ascend, the lower row of a pair. -/
def sortFlags (L k j : ℕ) (asc : BitVec 1) : IVec (flags L) 1 :=
  xori (xori (xori (cmpi .eq (andi (iota .tc (flags L) 32 [0] (iota_flags L)) (broadcast (flags L) (BitVec.ofNat 32 k)))
      (broadcast (flags L) 0#32))
    (broadcastTo (flags L) (broadcast (flags L) asc) (bcast_self _))) (constantI (flags L) 1 1#1)) (bitSet L j)

/-- The flags of a merging stage: the lower row of a pair when ascending, else the upper. -/
def mergeFlags (L j : ℕ) (asc : BitVec 1) : IVec (flags L) 1 :=
  xori (bitSet L j) (broadcastTo (flags L) (broadcast (flags L) asc) (bcast_self _))

/-- Run `o` of every group of two. -/
def run (o : ℕ) (ho : o + 1 ≤ 2) (L b j : ℕ) (h : b * (2 * j) = L) (X : FVec F (rows L) .bf16) : FVec F (runs b j) .bf16 :=
  shapeCast (runs b j) (extractStridedSlice (single b j) ![0, o, 0, 0]
    (shapeCast (pairs b j) X (casts_pairs h)) (slices_pair ho)) (casts_single b j)

/-- The groups put together again from their two runs. -/
def regroup (L b j : ℕ) (h : b * (2 * j) = L) (lo hi : FVec F (runs b j) .bf16) : FVec F (rows L) .bf16 :=
  shapeCast (rows L) (concatenate (pairs b j) 1
    [⟨single b j, shapeCast (single b j) lo (casts_single b j).symm⟩,
     ⟨single b j, shapeCast (single b j) hi (casts_single b j).symm⟩] (concat_pairs b j)) (casts_pairs h).symm

/-- A merging stage over distant rows. -/
def farMerge (L b j : ℕ) (h : b * (2 * j) = L) (asc : Bool) (X : FVec F (rows L) .bf16) : FVec F (rows L) .bf16 :=
  let mn := minimumf (run 0 (by omega) L b j h X) (run 1 (by omega) L b j h X)
  let mx := maximumf (run 0 (by omega) L b j h X) (run 1 (by omega) L b j h X)
  match asc with
  | true => regroup L b j h mn mx
  | false => regroup L b j h mx mn

/-- Whether a group of a sorting stage lies in a run of `k` rows that is to ascend. -/
def groupAsc (b j k : ℕ) (asc : BitVec 1) : IVec (groupFlags b) 1 :=
  xori (xori (cmpi .eq (andi (muli (muli (iota .tc (groupFlags b) 32 [0] (iota_groups b)) (broadcast (groupFlags b) 2#32))
        (broadcast (groupFlags b) (BitVec.ofNat 32 j))) (broadcast (groupFlags b) (BitVec.ofNat 32 k)))
      (broadcast (groupFlags b) 0#32))
    (broadcastTo (groupFlags b) (broadcast (groupFlags b) asc) (bcast_self _))) (constantI (groupFlags b) 1 1#1)

/-- A sorting stage over distant rows. -/
def farSort (L b j : ℕ) (h : b * (2 * j) = L) (k : ℕ) (asc : BitVec 1) (X : FVec F (rows L) .bf16) : FVec F (rows L) .bf16 :=
  let mn := minimumf (run 0 (by omega) L b j h X) (run 1 (by omega) L b j h X)
  let mx := maximumf (run 0 (by omega) L b j h X) (run 1 (by omega) L b j h X)
  let m := broadcastTo (runs b j) (shapeCast (groupFlags b) (groupAsc b j k asc) rfl) (bcast_runs b j)
  regroup L b j h (select m mn mx) (select m mx mn)

/-! ## The sort, the merges and the last selection -/

/-- A sorting stage of the 256 rows of a device over nearby rows. -/
def sortNear (k j r : ℕ) (h : r + j = 256) (asc : BitVec 1) (X : FVec F (rows 256) .bf16) : FVec F (rows 256) .bf16 :=
  near 256 j r h (sortFlags 256 k j asc) X

/-- The sort of a device's 256 rows: the levels 2, 4, …, 256, each from its widest stage down. -/
def sortRows (asc : BitVec 1) (X : FVec F (rows 256) .bf16) : FVec F (rows 256) .bf16 :=
  let X := sortNear 2 1 255 rfl asc X
  let X := sortNear 4 2 254 rfl asc X
  let X := sortNear 4 1 255 rfl asc X
  let X := sortNear 8 4 252 rfl asc X
  let X := sortNear 8 2 254 rfl asc X
  let X := sortNear 8 1 255 rfl asc X
  let X := farSort 256 16 8 rfl 16 asc X
  let X := sortNear 16 4 252 rfl asc X
  let X := sortNear 16 2 254 rfl asc X
  let X := sortNear 16 1 255 rfl asc X
  let X := farSort 256 8 16 rfl 32 asc X
  let X := farSort 256 16 8 rfl 32 asc X
  let X := sortNear 32 4 252 rfl asc X
  let X := sortNear 32 2 254 rfl asc X
  let X := sortNear 32 1 255 rfl asc X
  let X := farSort 256 4 32 rfl 64 asc X
  let X := farSort 256 8 16 rfl 64 asc X
  let X := farSort 256 16 8 rfl 64 asc X
  let X := sortNear 64 4 252 rfl asc X
  let X := sortNear 64 2 254 rfl asc X
  let X := sortNear 64 1 255 rfl asc X
  let X := farSort 256 2 64 rfl 128 asc X
  let X := farSort 256 4 32 rfl 128 asc X
  let X := farSort 256 8 16 rfl 128 asc X
  let X := farSort 256 16 8 rfl 128 asc X
  let X := sortNear 128 4 252 rfl asc X
  let X := sortNear 128 2 254 rfl asc X
  let X := sortNear 128 1 255 rfl asc X
  let X := farSort 256 1 128 rfl 256 asc X
  let X := farSort 256 2 64 rfl 256 asc X
  let X := farSort 256 4 32 rfl 256 asc X
  let X := farSort 256 8 16 rfl 256 asc X
  let X := farSort 256 16 8 rfl 256 asc X
  let X := sortNear 256 4 252 rfl asc X
  let X := sortNear 256 2 254 rfl asc X
  let X := sortNear 256 1 255 rfl asc X
  X

/-- A merging stage over nearby rows. -/
def mergeNear (L j r : ℕ) (h : r + j = L) (asc : BitVec 1) (X : FVec F (rows L) .bf16) : FVec F (rows L) .bf16 :=
  near L j r h (mergeFlags L j asc) X

/-- The last three stages of every merge. -/
def mergeTail (L r₁ r₂ r₃ : ℕ) (h₁ : r₁ + 4 = L) (h₂ : r₂ + 2 = L) (h₃ : r₃ + 1 = L) (asc : BitVec 1)
    (X : FVec F (rows L) .bf16) : FVec F (rows L) .bf16 :=
  mergeNear L 1 r₃ h₃ asc (mergeNear L 2 r₂ h₂ asc (mergeNear L 4 r₁ h₁ asc X))

/-- The merge of a bitonic array of 256 rows into an ascending one. -/
def merge256 (X : FVec F (rows 256) .bf16) : FVec F (rows 256) .bf16 :=
  let X := farMerge 256 1 128 rfl true X
  let X := farMerge 256 2 64 rfl true X
  let X := farMerge 256 4 32 rfl true X
  let X := farMerge 256 8 16 rfl true X
  let X := farMerge 256 16 8 rfl true X
  mergeTail 256 252 254 255 rfl rfl rfl 1#1 X

/-- The merge of a bitonic array of 512 rows, ascending or descending. -/
def merge512 (asc : Bool) (X : FVec F (rows 512) .bf16) : FVec F (rows 512) .bf16 :=
  let X := farMerge 512 1 256 rfl asc X
  let X := farMerge 512 2 128 rfl asc X
  let X := farMerge 512 4 64 rfl asc X
  let X := farMerge 512 8 32 rfl asc X
  let X := farMerge 512 16 16 rfl asc X
  let X := farMerge 512 32 8 rfl asc X
  mergeTail 512 508 510 511 rfl rfl rfl (match asc with | true => 1#1 | false => 0#1) X

/-- The merge of a bitonic array of 1024 rows, ascending or descending. -/
def merge1024 (asc : Bool) (X : FVec F (rows 1024) .bf16) : FVec F (rows 1024) .bf16 :=
  let X := farMerge 1024 1 512 rfl asc X
  let X := farMerge 1024 2 256 rfl asc X
  let X := farMerge 1024 4 128 rfl asc X
  let X := farMerge 1024 8 64 rfl asc X
  let X := farMerge 1024 16 32 rfl asc X
  let X := farMerge 1024 32 16 rfl asc X
  let X := farMerge 1024 64 8 rfl asc X
  mergeTail 1024 1020 1022 1023 rfl rfl rfl (match asc with | true => 1#1 | false => 0#1) X

/-- One level of the selection: the lesser or the greater entries of the two halves. -/
def half (H L : ℕ) (h : H + H = L) (low : BitVec 1) (X : FVec F (rows L) .bf16) : FVec F (rows H) .bf16 :=
  let a := extractStridedSlice (rows H) ![0, 0] X (slices_rows (by omega))
  let b := extractStridedSlice (rows H) ![H, 0] X (slices_rows (by omega))
  Scalar.select low (minimumf a b) (maximumf a b)

/-- Whether bit `s` of a device's number is clear. -/
def bitClear (v : BitVec 32) (s : BitVec 32) : BitVec 1 :=
  Scalar.cmpi .eq (Scalar.andi (Scalar.shrsi v s) 1#32) 0#32

/-- A device's own block of the ascending merge of a bitonic array of 2048 rows: three halvings, then
    the merge of the 256 rows that are left. -/
def ownBlock (v : BitVec 32) (X : FVec F (rows 2048) .bf16) : FVec F (rows 256) .bf16 :=
  merge256 (half 256 512 rfl (bitClear v 0#32) (half 512 1024 rfl (bitClear v 1#32) (half 1024 2048 rfl (bitClear v 2#32) X)))

/-- A stored value: written with a cast to the shape it has already. -/
def stored (L : ℕ) (X : FVec F (rows L) .bf16) : FVec F (rows L) .bf16 := shapeCast (rows L) X rfl

/-- Whether a device sorts its rows upwards: its number is even. -/
def upwards (v : BitVec 32) : BitVec 1 := Scalar.cmpi .eq (Scalar.andi v 1#32) 0#32

end Cert.KernelIdeal.Own
-- ==== Proof.Program.lean ====
/- The kernel's body as one sequence of memory operations, signals, copies and waits, its values
   named after the stages. The printed body is this sequence. -/
module

public import proofs.«01_k».proof.Proof.Stage

@[expose] public section

noncomputable section

namespace Cert.KernelIdeal.Own

open Idealize.ShloMosaic Idealize.SL.Sem Cert.KernelIdeal Cert.KernelIdeal.Gen

variable {F : FTy → Type} [FloatOps F]

/-- A block of 256 gathered rows lies in the array. -/
theorem inb_slot (t : Fin 8) : ∀ a, (![256 * t.val, 0] : Fin 2 → ℕ) a + S256x128.size a ≤ S2048x128.size a := by
  revert t; decide

/-- Semaphore `t` lies in its array. -/
theorem inb_sem (t : Fin 7) : ∀ a, (![t.val] : Fin 1 → ℕ) a + S1.size a ≤ S7.size a := by
  revert t; decide

/-- A block of 256 gathered rows is made of whole words. -/
theorem words_slot (t : Fin 8) :
    (Rect.unit (s := S2048x128) ![256 * t.val, 0] S256x128.size (inb_slot t)).WholeWords (EltTy.packing .bf16) := by
  revert t; decide

/-- The rectangle of slot `t`. -/
abbrev slotRect (t : Fin 8) : Rect S2048x128 := Rect.unit (s := S2048x128) ![256 * t.val, 0] S256x128.size (inb_slot t)

/-- Slot `t` of the gather buffer. -/
abbrev slot (g : Memref sig .tc .vmem S2048x128 .bf16) (t : Fin 8) : Memref sig .tc .vmem S256x128 .bf16 :=
  g.slice (slotRect t) (fun _ => rfl)

/-- Semaphore `t` of an array of seven. -/
abbrev semOf (a : DmaSems sig S7) (t : Fin 7) : DmaSem sig :=
  ((a.slice (Rect.unit (s := S7) ![t.val] S1.size (inb_sem t))).squeeze S_ squeezes_S1_S_).sem

/-- The device that signal `t` goes to, as printed. -/
abbrev sigDev (d : Dev nD) : Fin 7 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩

/-- The device that copy `t` goes to, as printed. -/
abbrev copyDev (d : Dev nD) : Fin 7 → Dev nD
  | 0 => ⟨k0_dev8 d, k0_dev8_lt d⟩ | 1 => ⟨k0_dev9 d, k0_dev9_lt d⟩ | 2 => ⟨k0_dev10 d, k0_dev10_lt d⟩
  | 3 => ⟨k0_dev11 d, k0_dev11_lt d⟩ | 4 => ⟨k0_dev12 d, k0_dev12_lt d⟩ | 5 => ⟨k0_dev13 d, k0_dev13_lt d⟩
  | 6 => ⟨k0_dev14 d, k0_dev14_lt d⟩

/-- A device's number as the kernel computes it from its identity. -/
def number (d : Dev nD) : BitVec 32 := Scalar.remsi (Scalar.divsi (Dev.word d) 1#32) 8#32

/-- Copy `t`: slot 0 to slot `t + 1` of another device. -/
def copyOut (g : Memref sig .tc .vmem S2048x128 .bf16) (hg : g.IsWhole) (ss rs : DmaSems sig S7) (d : Dev nD) (t : Fin 7) :
    Prog (TpuEff nD τ sig (Elt F) Λ₀ .tc) PUnit :=
  Prog.lift (.enqueueDma (slot g 0) (.remote (Dev.tc (copyDev d t)) (slot g t.succ) (.dma (semOf ss t))) (.dma (semOf rs t))
    (hg.wordExact_slice rfl _ (words_slot 0)) (hg.wordExact_slice rfl _ (words_slot t.succ)) ⟨⟨rfl, Or.inl rfl⟩, trivial⟩)

/-- The wait for the arrival of slot `t + 1`. -/
def awaitSlot (g : Memref sig .tc .vmem S2048x128 .bf16) (hg : g.IsWhole) (rs : DmaSems sig S7) (t : Fin 7) :
    Prog (TpuEff nD τ sig (Elt F) Λ₀ .tc) PUnit :=
  Prog.lift (.waitDma2 (semOf rs t) (slot g 0) (slot g t.succ)
    (hg.wordExact_slice rfl _ (words_slot 0)) (hg.wordExact_slice rfl _ (words_slot t.succ)))

/-- The wait for the end of copy `t`. -/
def awaitCopy (g : Memref sig .tc .vmem S2048x128 .bf16) (hg : g.IsWhole) (ss : DmaSems sig S7) (t : Fin 7) :
    Prog (TpuEff nD τ sig (Elt F) Λ₀ .tc) PUnit :=
  Prog.lift (.waitDma2 (semOf ss t) (slot g t.succ) (slot g 0)
    (hg.wordExact_slice rfl _ (words_slot t.succ)) (hg.wordExact_slice rfl _ (words_slot 0)))

/-- The body: barrier, sort, copies, merges in the order of arrival, selection, end of the copies. -/
def body (x : Memref sig .tc .vmem S256x128 .bf16) (o : Memref sig .tc .vmem S256x128 .f32)
    (g : Memref sig .tc .vmem S2048x128 .bf16) (hg : g.IsWhole) (w : Memref sig .tc .vmem S2048x128 .bf16) (hw : w.IsWhole)
    (ss rs : DmaSems sig S7) : Prog (TpuEff nD τ sig (Elt F) Λ₀ .tc) PUnit := do
  let bar : Sem sig := (SemArray.scalar (sig.barrier 0 rfl) : Sems sig S_).sem
  let d : Dev nD ← Prog.lift .deviceId
  semSignalWord (sigDev d 0) bar 1#32
  semSignalWord (sigDev d 1) bar 1#32
  semSignalWord (sigDev d 2) bar 1#32
  semSignalWord (sigDev d 3) bar 1#32
  semSignalWord (sigDev d 4) bar 1#32
  semSignalWord (sigDev d 5) bar 1#32
  semSignalWord (sigDev d 6) bar 1#32
  semWaitWord bar 7#32
  let v : Vec F S256x128 .bf16 ← Prog.lift (.load x (Rect.unit (s := S256x128) ![0, 0] S256x128.size inb_S256x128_S256x128_0_0).toLoadRect (View.loadsAt_vmem h_S256x128))
  let _ : Vec F S256x128 .bf16 ← Prog.lift (.load g (slotRect 0).toLoadRect (View.loadsAt_vmem h_S256x128))
  Prog.lift (.store g (slotRect 0) (stored 256 (sortRows (upwards (number d)) (stored 256 v))) Finset.univ
    (View.stores_vmem h_S256x128 (hg.storeExact_slice rfl _ packedbf16_S2048x128_S256x128_0_0) (fun _ => rfl)) (.inl rfl))
  copyOut g hg ss rs d 0
  copyOut g hg ss rs d 1
  copyOut g hg ss rs d 2
  copyOut g hg ss rs d 3
  copyOut g hg ss rs d 4
  copyOut g hg ss rs d 5
  copyOut g hg ss rs d 6
  awaitSlot g hg rs 0
  let v : Vec F S512x128 .bf16 ← Prog.lift (.load g (Rect.unit (s := S2048x128) ![0, 0] S512x128.size inb_S2048x128_S512x128_0_0).toLoadRect (View.loadsAt_vmem h_S512x128))
  let _ : Vec F S512x128 .bf16 ← Prog.lift (.load w (Rect.unit (s := S2048x128) ![0, 0] S512x128.size inb_S2048x128_S512x128_0_0).toLoadRect (View.loadsAt_vmem h_S512x128))
  Prog.lift (.store w (Rect.unit (s := S2048x128) ![0, 0] S512x128.size inb_S2048x128_S512x128_0_0) (stored 512 (merge512 true v)) Finset.univ
    (View.stores_vmem h_S512x128 (hw.storeExact_slice rfl _ packedbf16_S2048x128_S512x128_0_0) (fun _ => rfl)) (.inl rfl))
  awaitSlot g hg rs 1
  awaitSlot g hg rs 2
  let v : Vec F S512x128 .bf16 ← Prog.lift (.load g (Rect.unit (s := S2048x128) ![512, 0] S512x128.size inb_S2048x128_S512x128_512_0).toLoadRect (View.loadsAt_vmem h_S512x128))
  let _ : Vec F S512x128 .bf16 ← Prog.lift (.load w (Rect.unit (s := S2048x128) ![512, 0] S512x128.size inb_S2048x128_S512x128_512_0).toLoadRect (View.loadsAt_vmem h_S512x128))
  Prog.lift (.store w (Rect.unit (s := S2048x128) ![512, 0] S512x128.size inb_S2048x128_S512x128_512_0) (stored 512 (merge512 false v)) Finset.univ
    (View.stores_vmem h_S512x128 (hw.storeExact_slice rfl _ packedbf16_S2048x128_S512x128_512_0) (fun _ => rfl)) (.inl rfl))
  let v : Vec F S1024x128 .bf16 ← Prog.lift (.load w (Rect.unit (s := S2048x128) ![0, 0] S1024x128.size inb_S2048x128_S1024x128_0_0).toLoadRect (View.loadsAt_vmem h_S1024x128))
  let _ : Vec F S1024x128 .bf16 ← Prog.lift (.load w (Rect.unit (s := S2048x128) ![0, 0] S1024x128.size inb_S2048x128_S1024x128_0_0).toLoadRect (View.loadsAt_vmem h_S1024x128))
  Prog.lift (.store w (Rect.unit (s := S2048x128) ![0, 0] S1024x128.size inb_S2048x128_S1024x128_0_0) (stored 1024 (merge1024 true v)) Finset.univ
    (View.stores_vmem h_S1024x128 (hw.storeExact_slice rfl _ packedbf16_S2048x128_S1024x128_0_0) (fun _ => rfl)) (.inl rfl))
  awaitSlot g hg rs 3
  awaitSlot g hg rs 4
  let v : Vec F S512x128 .bf16 ← Prog.lift (.load g (Rect.unit (s := S2048x128) ![1024, 0] S512x128.size inb_S2048x128_S512x128_1024_0).toLoadRect (View.loadsAt_vmem h_S512x128))
  let _ : Vec F S512x128 .bf16 ← Prog.lift (.load w (Rect.unit (s := S2048x128) ![1024, 0] S512x128.size inb_S2048x128_S512x128_1024_0).toLoadRect (View.loadsAt_vmem h_S512x128))
  Prog.lift (.store w (Rect.unit (s := S2048x128) ![1024, 0] S512x128.size inb_S2048x128_S512x128_1024_0) (stored 512 (merge512 true v)) Finset.univ
    (View.stores_vmem h_S512x128 (hw.storeExact_slice rfl _ packedbf16_S2048x128_S512x128_1024_0) (fun _ => rfl)) (.inl rfl))
  awaitSlot g hg rs 5
  awaitSlot g hg rs 6
  let v : Vec F S512x128 .bf16 ← Prog.lift (.load g (Rect.unit (s := S2048x128) ![1536, 0] S512x128.size inb_S2048x128_S512x128_1536_0).toLoadRect (View.loadsAt_vmem h_S512x128))
  let _ : Vec F S512x128 .bf16 ← Prog.lift (.load w (Rect.unit (s := S2048x128) ![1536, 0] S512x128.size inb_S2048x128_S512x128_1536_0).toLoadRect (View.loadsAt_vmem h_S512x128))
  Prog.lift (.store w (Rect.unit (s := S2048x128) ![1536, 0] S512x128.size inb_S2048x128_S512x128_1536_0) (stored 512 (merge512 false v)) Finset.univ
    (View.stores_vmem h_S512x128 (hw.storeExact_slice rfl _ packedbf16_S2048x128_S512x128_1536_0) (fun _ => rfl)) (.inl rfl))
  let v : Vec F S1024x128 .bf16 ← Prog.lift (.load w (Rect.unit (s := S2048x128) ![1024, 0] S1024x128.size inb_S2048x128_S1024x128_1024_0).toLoadRect (View.loadsAt_vmem h_S1024x128))
  let _ : Vec F S1024x128 .bf16 ← Prog.lift (.load w (Rect.unit (s := S2048x128) ![1024, 0] S1024x128.size inb_S2048x128_S1024x128_1024_0).toLoadRect (View.loadsAt_vmem h_S1024x128))
  Prog.lift (.store w (Rect.unit (s := S2048x128) ![1024, 0] S1024x128.size inb_S2048x128_S1024x128_1024_0) (stored 1024 (merge1024 false v)) Finset.univ
    (View.stores_vmem h_S1024x128 (hw.storeExact_slice rfl _ packedbf16_S2048x128_S1024x128_1024_0) (fun _ => rfl)) (.inl rfl))
  let v : Vec F S2048x128 .bf16 ← Prog.lift (.load w (Rect.unit (s := S2048x128) ![0, 0] S2048x128.size inb_S2048x128_S2048x128_0_0).toLoadRect (View.loadsAt_vmem h_S2048x128))
  let _ : Vec F S256x128 .f32 ← Prog.lift (.load o (Rect.unit (s := S256x128) ![0, 0] S256x128.size inb_S256x128_S256x128_0_0).toLoadRect (View.loadsAt_vmem h_S256x128))
  Prog.lift (.store o (Rect.unit (s := S256x128) ![0, 0] S256x128.size inb_S256x128_S256x128_0_0) (extf .f32 (ownBlock (number d) v) bitsLt_bf16_f32) Finset.univ
    (View.stores_vmem_bits_univ h_S256x128 rfl) (.inl rfl))
  awaitCopy g hg ss 0
  awaitCopy g hg ss 1
  awaitCopy g hg ss 2
  awaitCopy g hg ss 3
  awaitCopy g hg ss 4
  awaitCopy g hg ss 5
  awaitCopy g hg ss 6

set_option maxHeartbeats 4000000 in
/-- The printed body is this sequence. -/
theorem cc0_body_eq (arg0 : Memref sig .tc .vmem S256x128 .bf16) (harg0 : arg0.IsWhole) (arg1 : Memref sig .tc .vmem S256x128 .f32) (harg1 : arg1.IsWhole)
    (arg2 : Memref sig .tc .vmem S2048x128 .bf16) (harg2 : arg2.IsWhole) (arg3 : Memref sig .tc .vmem S2048x128 .bf16) (harg3 : arg3.IsWhole)
    (arg4 arg5 : DmaSems sig S7) :
    cc0_body (F := F) arg0 harg0 arg1 harg1 arg2 harg2 arg3 harg3 arg4 arg5 = body arg0 arg1 arg2 harg2 arg3 harg3 arg4 arg5 := rfl

end Cert.KernelIdeal.Own
-- ==== Proof.Protocol.lean ====
/- Who waits for what, and what each arrival hands over.

   Device `d` and its partner at distance `t + 1` (the device whose number differs by that
   exclusive-or) meet three times. On the barrier cell of `d` the partner pays one unit, with slot
   `t + 1` of its own gather buffer: the room for copy `t`. On receive cell `t` of `d` the partner
   pays a slot's credit, with slot `t + 1` of `d` holding the partner's sorted block. On send cell
   `t` of `d` the end of copy `t` pays a slot's credit, with the share of slot 0 that was lent. -/
module

public import proofs.«01_k».proof.Proof.Program
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.Transfers
public import Idealize.ShloMosaic.Lib.Ring
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state of the pipeline and of the exchange, whose duties are named by distances. -/
abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Partners -/

/-- The device at distance `t`. -/
def hop (d : Dev nD) (t : Fin 8) : Dev nD := ⟨d.val ^^^ t.val, by revert d t; decide⟩

/-- The partner of copy `t`. -/
abbrev peer (d : Dev nD) (t : Fin 7) : Dev nD := hop d t.succ

theorem peer_peer (d : Dev nD) (t : Fin 7) : peer (peer d t) t = d := by revert d t; decide
theorem hop_zero (d : Dev nD) : hop d 0 = d := by revert d; decide
theorem sigDev_eq (d : Dev nD) (t : Fin 7) : sigDev d t = peer d t := by revert d t; decide
theorem copyDev_eq (d : Dev nD) (t : Fin 7) : copyDev d t = peer d t := by revert d t; decide

/-- Partners at one distance, as a permutation of the devices. -/
def swap (t : Fin 7) : Dev nD ≃ Dev nD := ⟨(peer · t), (peer · t), (peer_peer · t), (peer_peer · t)⟩

/-! ## Buffers and cells -/

abbrev xM : Memref sig .tc .vmem S256x128 .bf16 := Memref.whole cc0_stg0_0
abbrev oM : Memref sig .tc .vmem S256x128 .f32 := Memref.whole cc0_stg1_0
abbrev gM : Memref sig .tc .vmem S2048x128 .bf16 := Memref.whole cc0_scratch0
abbrev wM : Memref sig .tc .vmem S2048x128 .bf16 := Memref.whole cc0_scratch1
abbrev sendS : DmaSems sig S7 := cc0_scratch2
abbrev recvS : DmaSems sig S7 := cc0_scratch3
abbrev barS : Sem sig := (SemArray.scalar (sig.barrier 0 rfl) : Sems sig S_).sem

/-- The kernel's own semaphores: those of the sends and those of the arrivals. -/
abbrev osem : Fin 7 ⊕ Fin 7 → SemLoc sig
  | .inl t => .dma (semOf sendS t)
  | .inr t => .dma (semOf recvS t)

/-- All semaphores of the exchange: the barrier's, then the kernel's own. -/
abbrev csem : Unit ⊕ (Fin 7 ⊕ Fin 7) → SemLoc sig
  | .inl _ => .reg barS
  | .inr k => osem k

abbrev cell (d : Dev nD) (k : Unit ⊕ (Fin 7 ⊕ Fin 7)) : GSem nD τ sig := ((d : Thread nD τ), csem k)
abbrev barCell (d : Dev nD) : GSem nD τ sig := ((d : Thread nD τ), .reg barS)
abbrev sendCell (d : Dev nD) (t : Fin 7) : GSem nD τ sig := ((d : Thread nD τ), .dma (semOf sendS t))
abbrev recvCell (d : Dev nD) (t : Fin 7) : GSem nD τ sig := ((d : Thread nD τ), .dma (semOf recvS t))

theorem csem_injective : Function.Injective csem := by decide

/-- What one copy pays. -/
abbrev N : ℕ := (slot gM 0).view.dmaCredit
theorem N_pos : 0 < N := View.dmaCredit_pos _ (by decide)
theorem credit_slot (t : Fin 8) : (slot gM t).view.dmaCredit = N := rfl

/-! ## Contents -/

variable (m : (ℓ : Loc nD τ sig) → Buf (Elt F) ℓ) (ρ : Dev nD → PrngReg)

/-- Memory at launch: any contents, all counters zero. -/
def s₀ : MemSt nD τ sig (Elt F) := ⟨m, fun _ => 0, ρ⟩

/-- A device's block of the input. -/
def xstg (d : Dev nD) : (cc0_stg0_0 : Ref sig .tc).ty.Contents (Elt F) :=
  (win0_0.blk (0 : Fin 1)).view.read (Elt F) ((s₀ m ρ).mem ((d : Thread nD τ).loc main_arg0))

/-- A device's block sorted, its columns rising on devices of even number and falling on the others. -/
def sorted (d : Dev nD) : FVec F (rows 256) .bf16 :=
  stored 256 (sortRows (upwards (number d)) (stored 256 (xstg m ρ d)))

/-- The gather buffer once all copies are in: slot `t` holds the block of the device at distance `t`. -/
def gathered (d : Dev nD) : (cc0_scratch0 : Ref sig .tc).ty.Contents (Elt F) :=
  fun (i : (rows 2048).Idx) =>
    sorted m ρ (hop d ⟨(i 0).val / 256, by have : (i 0).val < 2048 := (i 0).isLt; omega⟩)
      (ix2 (⟨(i 0).val % 256, Nat.mod_lt _ (by decide)⟩ : Fin 256) (i 1 : Fin 128))

omit [FloatOps F] in
theorem slot_emb_val (t : Fin 8) (j : (rows 256).Idx) :
    (((slot gM t).view.emb j : (rows 2048).Idx) 0).val = 256 * t.val + (j 0).val
      ∧ (((slot gM t).view.emb j : (rows 2048).Idx) 1).val = (j 1).val := by
  constructor
  · exact ValueKit.view_emb_slice_whole_unit_val cc0_scratch0 ![256 * t.val, 0] S256x128.size (inb_slot t) j 0
  · exact (ValueKit.view_emb_slice_whole_unit_val cc0_scratch0 ![256 * t.val, 0] S256x128.size (inb_slot t) j 1).trans
      (Nat.zero_add _)

/-- Slot `t` of the full gather buffer is the block of the device at distance `t`. -/
theorem gathered_emb (d : Dev nD) (t : Fin 8) (j : (rows 256).Idx) :
    gathered m ρ d ((slot gM t).view.emb j) = sorted m ρ (hop d t) j := by
  obtain ⟨h0, h1⟩ := slot_emb_val t j
  have hj : (j 0).val < 256 := (j 0).isLt
  unfold gathered
  congr 1
  · congr 2; show _ / 256 = _; rw [h0]; omega
  · funext a
    match a with
    | ⟨0, _⟩ => apply Fin.ext; show _ % 256 = (j 0).val; rw [h0]; omega
    | ⟨1, _⟩ => apply Fin.ext; exact h1

theorem read_gathered (d : Dev nD) (t : Fin 8) :
    (slot gM t).view.read (Elt F) (gathered m ρ d) = sorted m ρ (hop d t) :=
  funext fun j => gathered_emb m ρ d t j

/-- The entries of slot `t`. -/
abbrev slotSet (t : Fin 8) : Finset (cc0_scratch0 : Ref sig .tc).ty.Idx := (slot gM t).view.set

/-- They are those of 256 rows. -/
theorem mem_slot (t : Fin 8) (i : (rows 2048).Idx) :
    i ∈ slotSet t ↔ 256 * t.val ≤ (i 0).val ∧ (i 0).val < 256 * t.val + 256 := by
  refine ValueKit.mem_set_slice_whole_iff cc0_scratch0 (slotRect t) i ?_
  rw [Rect.mem_set_unit]
  exact (Fin.forall_fin_two (p := fun a : Fin 2 => ![256 * t.val, 0] a ≤ (i a).val ∧ (i a).val < ![256 * t.val, 0] a + S256x128.size a)).trans
    ⟨fun h => h.1, fun h => ⟨h, Nat.zero_le _, (i 1).isLt⟩⟩

theorem slots_disjoint (t t' : Fin 8) (h : t ≠ t') : Disjoint (slotSet t) (slotSet t') := by
  rw [Finset.disjoint_left]
  intro i h1 h2
  have a := (mem_slot t i).1 h1
  have b := (mem_slot t' i).1 h2
  exact h (Fin.ext (by omega))

theorem slots_cover : Finset.univ.biUnion slotSet = Finset.univ := by
  refine Finset.eq_univ_of_forall fun (i : (rows 2048).Idx) => ?_
  have hi : (i 0).val < 2048 := (i 0).isLt
  rw [Finset.mem_biUnion]
  exact ⟨⟨(i 0).val / 256, by omega⟩, Finset.mem_univ _, (mem_slot _ i).2 (by constructor <;> show _ <;> dsimp only <;> omega)⟩

/-- Slot `t` of device `d`, held at share `q` with the buffer's contents `f`. -/
def slotPts (d : Dev nD) (t : Fin 8) (q : PosShare TreeShare) (f : (cc0_scratch0 : Ref sig .tc).ty.Contents (Elt F)) : sProp 𝕄 :=
  (slot gM t).view.loc (d : Thread nD τ) ↦[(slot gM t).view.set]{q} f

omit [FloatOps F] in
instance slotPts_storable (d : Dev nD) (t : Fin 8) (q) (f) :
    BI.Storable (upEmb : UEmb _ 𝕄) (slotPts (F := F) d t q f) := by unfold slotPts; infer_instance

/-- The share of slot 0 lent to copy `t`. -/
abbrev lent (t : Fin 7) : PosShare TreeShare := Transfers.shareTok fullShare 7 t
/-- The share of slot 0 kept. -/
abbrev kept : PosShare TreeShare := Transfers.shareDrop fullShare 7

/-- A slot written with a device's sorted block holds what the full gather buffer holds there. -/
theorem landed (d : Dev nD) (t : Fin 8) (f : (cc0_scratch0 : Ref sig .tc).ty.Contents (Elt F)) (q) :
    slotPts d t q ((slot gM t).view.write (Elt F) f (sorted m ρ (hop d t)) Finset.univ) = (slotPts d t q (gathered m ρ d) : sProp 𝕄) := by
  unfold slotPts
  refine pointsTo_congr fun i hi => ?_
  obtain ⟨j, -, rfl⟩ := Finset.mem_map.1 hi
  exact (View.write_emb_of_mem _ _ (Finset.mem_univ _)).trans (gathered_emb m ρ d t j).symm

/-! ## The schedule -/

/-- What the partner's signal brings: the room for copy `t` in the partner's gather buffer. -/
def roomPay (d : Dev nD) (t : Fin 7) : sProp 𝕄 := iprop(∃ f, slotPts (peer d t) t.succ fullShare f)
/-- What an arrival brings: slot `t + 1` with the partner's block. -/
def recvPay (d : Dev nD) (t : Fin 7) : sProp 𝕄 := slotPts d t.succ fullShare (gathered m ρ d)
/-- What the end of a copy brings back: the lent share of slot 0. -/
def sendPay (d : Dev nD) (t : Fin 7) : sProp 𝕄 := slotPts d 0 (lent t) (gathered m ρ d)

/-- Which semaphore of the exchange this is. -/
def role : SemLoc sig → Option (Unit ⊕ (Fin 7 ⊕ Fin 7)) := Function.partialInv csem

theorem role_csem (k : Unit ⊕ (Fin 7 ⊕ Fin 7)) : role (csem k) = some k := Function.partialInv_left csem_injective k

/-- The duties of round 0. -/
def dutiesOf : Option (Unit ⊕ (Fin 7 ⊕ Fin 7)) → Finset (Fin 7)
  | some (.inl _) => Finset.univ
  | some (.inr _) => {0}
  | none => ∅

/-- What a duty pays. -/
def amountOf : Option (Unit ⊕ (Fin 7 ⊕ Fin 7)) → ℕ
  | some (.inl _) => 1
  | _ => N

/-- What a duty brings. -/
def payOf (d : Dev nD) (t : Fin 7) : Option (Unit ⊕ (Fin 7 ⊕ Fin 7)) → sProp 𝕄
  | some (.inl _) => roomPay d t
  | some (.inr (.inl u)) => sendPay m ρ d u
  | some (.inr (.inr u)) => recvPay m ρ d u
  | none => iprop(emp)

/-- The exchange: one round. -/
def sched : Rounds.Schedule (GSem nD τ sig) (Fin 7) 𝕄 where
  duties g r := if r = 0 ∧ g.1.2 = .tc then dutiesOf (role g.2) else ∅
  unitless _ := False
  amount g _ _ := amountOf (role g.2)
  payload g _ t := payOf m ρ g.1.1 t (role g.2)
  amount_pos g _ _ _ := by
    show 0 < amountOf (role g.2)
    rcases role g.2 with _ | _ | _
    · exact N_pos
    · exact Nat.one_pos
    · exact N_pos

instance sched_storable (g : GSem nD τ sig) (r : ℕ) (t : Fin 7) :
    BI.Storable (upEmb : UEmb _ 𝕄) ((sched (F := F) m ρ).payload g r t) := by
  show BI.Storable upEmb (payOf m ρ g.1.1 t (role g.2))
  rcases role g.2 with _ | _ | _ | _ <;> (dsimp only [payOf]; (try unfold roomPay); (try unfold recvPay); (try unfold sendPay); infer_instance)

theorem duties_cell (d : Dev nD) (k) : (sched (F := F) m ρ).duties (cell d k) 0 = dutiesOf (some k) := by
  show (if 0 = 0 ∧ (cell d k).1.2 = .tc then dutiesOf (role (csem k)) else ∅) = _
  rw [role_csem, if_pos ⟨rfl, rfl⟩]

theorem duties_later (g : GSem nD τ sig) : ∀ r, 1 ≤ r → (sched (F := F) m ρ).duties g r = ∅ :=
  fun r hr => if_neg fun h => by omega

theorem amount_cell (d : Dev nD) (k) (t : Fin 7) : (sched (F := F) m ρ).amount (cell d k) 0 t = amountOf (some k) := by
  show amountOf (role (csem k)) = _
  rw [role_csem]

theorem payload_cell (d : Dev nD) (k) (t : Fin 7) : (sched (F := F) m ρ).payload (cell d k) 0 t = payOf m ρ d t (some k) := by
  show payOf m ρ d t (role (csem k)) = _
  rw [role_csem]

theorem expect_bar (d : Dev nD) : (sched (F := F) m ρ).expect (barCell d) 0 = 7 := by
  unfold Schedule.expect Schedule.amountOf
  rw [duties_cell m ρ d (.inl ()), Finset.sum_congr rfl fun t _ => amount_cell m ρ d (.inl ()) t]
  rfl

theorem expect_own (d : Dev nD) (k : Fin 7 ⊕ Fin 7) : (sched (F := F) m ρ).expect (cell d (.inr k)) 0 = N := by
  unfold Schedule.expect Schedule.amountOf
  rw [duties_cell]
  exact (Finset.sum_singleton _ _).trans (amount_cell m ρ d (.inr k) 0)

theorem rest_bar (d : Dev nD) :
    bigSep ((sched (F := F) m ρ).duties (barCell d) 0 \ ∅) (fun t => (sched (F := F) m ρ).payload (barCell d) 0 t)
      = bigSep Finset.univ fun t => (roomPay d t : sProp 𝕄) := by
  rw [Finset.sdiff_empty, duties_cell m ρ d (.inl ())]
  exact bigSep_congr fun t _ => payload_cell m ρ d (.inl ()) t

theorem rest_own (d : Dev nD) (k : Fin 7 ⊕ Fin 7) :
    bigSep ((sched (F := F) m ρ).duties (cell d (.inr k)) 0 \ ∅) (fun t => (sched (F := F) m ρ).payload (cell d (.inr k)) 0 t)
      = payOf m ρ d 0 (some (.inr k)) := by
  rw [Finset.sdiff_empty, duties_cell]
  exact (bigSep_singleton (Φ := fun t => (sched (F := F) m ρ).payload (cell d (.inr k)) 0 t)).trans (payload_cell m ρ d (.inr k) 0)

/-! ## What each device owes at launch; the levels -/

/-- The debts of the distances from `n` on. -/
def owedFrom (f : Fin 7 → CellTallies nD τ sig Unit) (n : ℕ) : CellTallies nD τ sig Unit :=
  ∑ t ∈ Finset.univ.filter (fun t : Fin 7 => n ≤ t.val), f t

theorem owedFrom_step (f : Fin 7 → CellTallies nD τ sig Unit) (t : Fin 7) :
    owedFrom f t.val = owedFrom f (t.val + 1) + f t := by
  have h : Finset.univ.filter (fun u : Fin 7 => t.val ≤ u.val)
      = insert t (Finset.univ.filter (fun u : Fin 7 => t.val + 1 ≤ u.val)) := by
    revert t; decide
  unfold owedFrom
  rw [h, Finset.sum_insert (by simp), add_comm]

theorem owedFrom_end (f : Fin 7 → CellTallies nD τ sig Unit) : owedFrom f 7 = 0 :=
  Finset.sum_eq_zero fun t ht => absurd (Finset.mem_filter.1 ht).2 (by omega)

theorem owedFrom_start (f : Fin 7 → CellTallies nD τ sig Unit) : owedFrom f 0 = ∑ t, f t := by
  unfold owedFrom; rw [Finset.filter_true_of_mem fun _ _ => Nat.zero_le _]

/-- A unit for each partner's barrier. -/
def barDebt (d : Dev nD) (t : Fin 7) : CellTallies nD τ sig Unit := tallyAt (barCell (peer d t)) () 1
/-- A slot's credit for each partner's receive cell. -/
def recvDebt (d : Dev nD) (t : Fin 7) : CellTallies nD τ sig Unit := tallyAt (recvCell (peer d t) t) () N

/-- All that device `d` owes at launch. -/
def O₀ (d : Dev nD) : CellTallies nD τ sig Unit := owedFrom (recvDebt d) 0 + owedFrom (barDebt d) 0

def L (g : GSem nD τ sig) : Finset Unit := if g.1.2 = .tc then {()} else ∅

/-- Barrier cells at level 1, receive cells at 2, all others at 0. -/
def levelOf : Option (Unit ⊕ (Fin 7 ⊕ Fin 7)) → ℕ
  | some (.inl _) => 1
  | some (.inr (.inr _)) => 2
  | _ => 0

def lv (g : GSem nD τ sig) (_ : Unit) : ℕ := levelOf (role g.2)

theorem lv_cell (d : Dev nD) (k) (u : Unit) : lv (cell d k) u = levelOf (some k) := by
  show levelOf (role (csem k)) = _; rw [role_csem]

theorem L_of_ne (g : GSem nD τ sig) (h : g.1.2 ≠ .tc) : L g = ∅ := if_neg h
theorem L_tc (d : Dev nD) (sm : SemLoc sig) : L ((d : Thread nD τ), sm) = {()} := if_pos rfl

theorem owedFrom_apply (f : Fin 7 → CellTallies nD τ sig Unit) (n : ℕ) (g : GSem nD τ sig) (u : Unit) :
    owedFrom f n g u = ∑ t ∈ Finset.univ.filter (fun t : Fin 7 => n ≤ t.val), f t g u := by
  unfold owedFrom
  rw [Finset.sum_apply, Finsupp.finset_sum_apply]

theorem owedFrom_pos {f : Fin 7 → CellTallies nD τ sig Unit} {n : ℕ} {g : GSem nD τ sig} {u : Unit}
    (h : 0 < owedFrom f n g u) : ∃ t, 0 < f t g u := by
  rw [owedFrom_apply] at h
  obtain ⟨t, -, ht⟩ := Finset.exists_ne_zero_of_sum_ne_zero h.ne'
  exact ⟨t, Nat.pos_of_ne_zero ht⟩

theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem recvDebt_pos {d : Dev nD} {n : ℕ} {g : GSem nD τ sig} {u : Unit} (h : 0 < owedFrom (recvDebt d) n g u) :
    ∃ t, g = cell (peer d t) (.inr (.inr t)) :=
  let ⟨t, ht⟩ := owedFrom_pos h
  ⟨t, tally_pos ht⟩

theorem barDebt_pos {d : Dev nD} {n : ℕ} {g : GSem nD τ sig} {u : Unit} (h : 0 < owedFrom (barDebt d) n g u) :
    ∃ t, g = cell (peer d t) (.inl ()) :=
  let ⟨t, ht⟩ := owedFrom_pos h
  ⟨t, tally_pos ht⟩

theorem O₀_pos {d : Dev nD} {g : GSem nD τ sig} {u : Unit} (h : 0 < O₀ d g u) :
    ∃ p k, g = cell p k ∧ 0 < levelOf (some k) := by
  unfold O₀ at h
  rw [Pi.add_apply, Finsupp.add_apply] at h
  rcases Nat.eq_zero_or_pos (owedFrom (recvDebt d) 0 g u) with h0 | h0
  · rw [h0, Nat.zero_add] at h
    obtain ⟨t, rfl⟩ := barDebt_pos h
    exact ⟨_, _, rfl, Nat.one_pos⟩
  · obtain ⟨t, rfl⟩ := recvDebt_pos h0
    exact ⟨_, _, rfl, Nat.two_pos⟩

/-- A semaphore outside the exchange may be waited for at any time. -/
theorem mayWait_stage (d : Dev nD) (s : SemLoc sig) (hs : role s = none) (O : CellTallies nD τ sig Unit) (hO : O = O₀ d ∨ O = 0) :
    (levAts L lv : sProp 𝕄) ⊢ MayWait (d : Thread nD τ) s () O := by
  rcases hO with rfl | rfl
  · refine MayOwe.of_cut (L := L) (lev := lv) 0 (fun p hp => by rw [Finset.mem_singleton.mp hp, L_tc]; exact Finset.mem_singleton_self _)
      (fun g u hg => by obtain ⟨p, k, rfl, -⟩ := O₀_pos hg; rw [L_tc]; exact Finset.mem_singleton_self _)
      (fun p hp => by rw [Finset.mem_singleton.mp hp]; show levelOf (role s) ≤ 0; rw [hs]; exact Nat.le_refl 0)
      (fun g u hg => by obtain ⟨p, k, rfl, h⟩ := O₀_pos hg; rw [lv_cell]; exact h)
  · rw [MayWait_zero]; iintro -; iempintro

/-- At its barrier a device owes receive cells only, which lie above. -/
theorem mayWait_bar (d : Dev nD) :
    (levAts L lv : sProp 𝕄) ⊢ MayWait (d : Thread nD τ) (.reg barS) () (owedFrom (recvDebt d) 0) :=
  MayOwe.of_cut (L := L) (lev := lv) 1 (fun p hp => by rw [Finset.mem_singleton.mp hp, L_tc]; exact Finset.mem_singleton_self _)
    (fun g u hg => by obtain ⟨t, rfl⟩ := recvDebt_pos hg; rw [L_tc]; exact Finset.mem_singleton_self _)
    (fun p hp => by rw [Finset.mem_singleton.mp hp]; exact (lv_cell d (.inl ()) _).le)
    (fun g u hg => by obtain ⟨t, rfl⟩ := recvDebt_pos hg; rw [lv_cell]; exact Nat.one_lt_two)

end Cert.KernelIdeal.Own
-- ==== Proof.Contents.lean ====
/- What the two scratch buffers hold, read row by row: writing a run of rows, reading one, and the
   value the kernel leaves on a device. -/
module

public import proofs.«01_k».proof.Proof.Protocol

@[expose] public section

noncomputable section

namespace Cert.KernelIdeal.Own

open Cert.KernelIdeal Cert.KernelIdeal.Gen
open Idealize.ShloMosaic

variable {F : FTy → Type} [FloatOps F]

/-- Two arrays of `L` rows, one under the other. -/
def stack {L : ℕ} (M : ℕ) (h : L + L = M) (A B : FVec F (rows L) .bf16) : FVec F (rows M) .bf16 :=
  fun i => if h0 : (i 0).val < L then A (ix2 (⟨(i 0).val, h0⟩ : Fin L) (i 1 : Fin 128))
    else B (ix2 (⟨(i 0).val - L, by have : (i 0).val < M := (i 0).isLt; omega⟩ : Fin L) (i 1 : Fin 128))

/-- A buffer of 2048 rows. -/
abbrev Wide (F : FTy → Type) : Type := FVec F (rows 2048) .bf16

/-- Rows `o`, …, `o + L - 1` of the buffer are those of `A`. -/
def Holds {L : ℕ} (f : Wide F) (o : ℕ) (A : FVec F (rows L) .bf16) : Prop :=
  ∀ (i : (rows 2048).Idx) (j : (rows L).Idx), (i 0).val = o + (j 0).val → (i 1).val = (j 1).val → f i = A j

/-- `L` rows from row `o` on. -/
abbrev band (o L : ℕ) (inb : ∀ a, (![o, 0] : Fin 2 → ℕ) a + (rows L).size a ≤ (rows 2048).size a) : Rect (rows 2048) :=
  Rect.unit (s := rows 2048) ![o, 0] (rows L).size inb

theorem band_emb {o L : ℕ} (inb) (j : (rows L).Idx) :
    ((band o L inb).emb j 0).val = o + (j 0).val ∧ ((band o L inb).emb j 1).val = (j 1).val :=
  ⟨ValueKit.rect_emb_unit_val (s := rows 2048) ![o, 0] (rows L).size inb j 0,
    (ValueKit.rect_emb_unit_val (s := rows 2048) ![o, 0] (rows L).size inb j 1).trans (Nat.zero_add _)⟩

/-- Reading the rows a buffer holds. -/
theorem Holds.read {L o : ℕ} {f : Wide F} {A : FVec F (rows L) .bf16} (h : Holds f o A) (inb) :
    (fun j => f ((band o L inb).emb j)) = A :=
  funext fun j => h _ j (band_emb inb j).1 (band_emb inb j).2

/-- Two runs of rows, one after the other, are one run. -/
theorem Holds.join {L M o : ℕ} (hM : L + L = M) {f : Wide F} {A B : FVec F (rows L) .bf16}
    (hA : Holds f o A) (hB : Holds f (o + L) B) : Holds f o (stack M hM A B) := by
  intro i j h0 h1
  unfold stack
  split
  · exact hA i _ h0 h1
  · exact hB i _ (by show _ = o + L + ((j 0).val - L); omega) h1

/-- Slot `t` of the full gather buffer. -/
theorem gathered_holds (m : (ℓ : Loc nD τ sig) → Buf (Elt F) ℓ) (ρ : Dev nD → PrngReg) (d : Dev nD) (t : Fin 8) :
    Holds (gathered m ρ d) (256 * t.val) (sorted m ρ (hop d t)) := by
  intro i j h0 h1
  have hj := (slot_emb_val t j)
  rw [← gathered_emb m ρ d t j]
  congr 1
  funext a
  match a with
  | ⟨0, _⟩ => exact Fin.ext (h0.trans hj.1.symm)
  | ⟨1, _⟩ => exact Fin.ext (h1.trans hj.2.symm)

/-- What the gather buffer gives when two neighbouring slots are read together. -/
theorem read_pair (m : (ℓ : Loc nD τ sig) → Buf (Elt F) ℓ) (ρ : Dev nD → PrngReg) (d : Dev nD) (t t' : Fin 8) (o : ℕ)
    (ho : o = 256 * t.val) (ht : t.val + 1 = t'.val) (inb) :
    gM.view.readAt (Elt F) (band o 512 inb).toLoadRect (gathered m ρ d)
      = stack 512 rfl (sorted m ρ (hop d t)) (sorted m ρ (hop d t')) := by
  have h := gathered_holds m ρ d t
  have h' := gathered_holds m ρ d t'
  rw [← ht, Nat.mul_add, Nat.mul_one] at h'
  subst ho
  exact (h.join rfl h').read inb

/-- A run of rows just written. -/
theorem write_holds {L o : ℕ} (f : Wide F) (A : FVec F (rows L) .bf16) (inb) :
    Holds ((wM.access (band o L inb)).write (Elt F) f A Finset.univ) o A := by
  intro i j h0 h1
  have hi : i = (band o L inb).emb j := by
    funext a
    match a with
    | ⟨0, _⟩ => exact Fin.ext (h0.trans (band_emb inb j).1.symm)
    | ⟨1, _⟩ => exact Fin.ext (h1.trans (band_emb inb j).2.symm)
  subst hi
  exact View.write_emb_of_mem (Val := Elt F) (v := wM.access (band o L inb)) f A (Finset.mem_univ j)

/-- Rows elsewhere are as they were. -/
theorem Holds.write {L o L' o' : ℕ} {f : Wide F} {A : FVec F (rows L) .bf16} (h : Holds f o A)
    (B : FVec F (rows L') .bf16) (inb) (hd : o + L ≤ o' ∨ o' + L' ≤ o) :
    Holds ((wM.access (band o' L' inb)).write (Elt F) f B Finset.univ) o A := by
  intro i j h0 h1
  refine (View.write_of_not_mem (Val := Elt F) (v := wM.access (band o' L' inb)) f B Finset.univ ?_).trans (h i j h0 h1)
  intro hx
  obtain ⟨x, -, hx⟩ := Finset.mem_map.1 hx
  have hj : (j 0).val < L := (j 0).isLt
  have hx0 := (band_emb inb x).1
  have hx' : (x 0).val < L' := (x 0).isLt
  have := congrArg (fun i : (rows 2048).Idx => (i 0).val) hx
  have h2 : o' + (x 0).val = (i 0).val := hx0.symm.trans this
  omega

/-- The value on device `d`: its block of the merged blocks of all devices. -/
def outAt (m : (ℓ : Loc nD τ sig) → Buf (Elt F) ℓ) (ρ : Dev nD → PrngReg) (d : Dev nD) : (cc0_stg1_0 : Ref sig .tc).ty.Contents (Elt F) :=
  let s (t : Fin 8) := sorted m ρ (hop d t)
  let q (up : Bool) (t t' : Fin 8) := stored 512 (merge512 up (stack 512 rfl (s t) (s t')))
  let h (up : Bool) (t t' u u' : Fin 8) := stored 1024 (merge1024 up (stack 1024 rfl (q true t t') (q false u u')))
  extf .f32 (ownBlock (number d) (stack 2048 rfl (h true 0 1 2 3) (h false 4 5 6 7))) bitsLt_bf16_f32

end Cert.KernelIdeal.Own
-- ==== Proof.Body.lean ====
/- The kernel's body on one device, run step by step: each rule is stated once for all distances. -/
module

public import proofs.«01_k».proof.Proof.Contents

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The semaphores of the exchange on all devices. -/
abbrev Key : Type := Dev nD × (Unit ⊕ (Fin 7 ⊕ Fin 7))

/-- The invariants of all cells, and that all stand at round 0. -/
def records (K : Key → ℕ) : sProp 𝕄 :=
  iprop((bigSep Finset.univ fun ck : Key => cellInv EX (sched m ρ) (K ck) (cell ck.1 ck.2))
    ∗ bigSep Finset.univ fun ck : Key => reached EX (cell ck.1 ck.2) 0)

instance records_persistent (K : Key → ℕ) : BI.Persistent (records m ρ K) := by unfold records; infer_instance

theorem records_inv (K : Key → ℕ) (d : Dev nD) (k) : records m ρ K ⊢ cellInv EX (sched m ρ) (K (d, k)) (cell d k) := by
  have h : (bigSep Finset.univ fun ck : Key => (cellInv EX (sched m ρ) (K ck) (cell ck.1 ck.2) : sProp 𝕄))
      ⊢ cellInv EX (sched m ρ) (K (d, k)) (cell d k) := bigSep_elim (Finset.mem_univ (d, k))
  unfold records
  iintro ⟨H, -⟩
  iapply h
  iexact H

theorem records_reached (K : Key → ℕ) (d : Dev nD) (k) : records m ρ K ⊢ reached EX (cell d k) 0 := by
  have h : (bigSep Finset.univ fun ck : Key => (reached EX (cell ck.1 ck.2) 0 : sProp 𝕄))
      ⊢ reached EX (cell d k) 0 := bigSep_elim (Finset.mem_univ (d, k))
  unfold records
  iintro ⟨-, H⟩
  iapply h
  iexact H

/-- What device `d` still owes, whatever it has waited for. -/
def due (d : Dev nD) (O : CellTallies nD τ sig Unit) : sProp 𝕄 := iprop(∃ W, owes (d : Thread nD τ) O W)

abbrev 𝒱₀ : Variants := Variants.none

section Steps

variable (K : Key → ℕ) (d : Dev nD)

/-- Signal `t`: the partner gets slot `t + 1`. -/
theorem step_signal {α : Type} {Q : α → sProp 𝕄} {k : PUnit → Prog (TpuEff nD τ sig (Elt F) Λ₀ .tc) α}
    (t : Fin 7) (n : Dev nD) (hn : n = peer d t) (R : CellTallies nD τ sig Unit) (f)
    (i j : ℕ) (hi : t.val = i) (hj : t.val + 1 = j) (a : ℤ) (ha : ((1 : ℕ) : ℤ) = a) :
    records m ρ K ⊢ iprop(due d (R + owedFrom (barDebt d) i) -∗ dutyTok EX (barCell (peer d t)) 0 t
      -∗ slotPts d t.succ fullShare f
      -∗ (due d (R + owedFrom (barDebt d) j) -∗ wp frame (wpE (defs₀ (F := F)) 𝒱₀ (d : Thread nD τ) none) Set.univ (k ⟨⟩) Q)
      -∗ wp frame (wpE (defs₀ (F := F)) 𝒱₀ (d : Thread nD τ) none) Set.univ (.op (.semSignal (n : Thread nD τ) barS a) k) Q) := by
  subst hn
  subst ha hi hj
  iintro #HR HO Ht Hs Hk
  unfold due
  icases HO with ⟨%W, HO⟩
  iapply (Rounds.wp_signal 𝒱₀ EX (sched m ρ) (d : Thread nD τ) none (dst := (peer d t : Thread nD τ)) (κ := K (peer d t, .inl ()))
      (d := t) (by rw [duties_cell m ρ (peer d t) (.inl ())]; exact Finset.mem_univ _) (amount_cell m ρ (peer d t) (.inl ()) t) ()
      (O₀ := R + owedFrom (barDebt d) t.val) (R + owedFrom (barDebt d) (t.val + 1)) (by rw [owedFrom_step, ← add_assoc]; rfl)) $$ [HO Ht Hs]
  · isplitr; · iapply (records_inv m ρ K (peer d t) (.inl ())); iexact HR
    isplitl [HO]; · iexact HO
    isplitl [Ht]; · iexact Ht
    isplitl [Hs]
    · rw [payload_cell m ρ (peer d t) (.inl ())]
      unfold payOf roomPay
      rw [peer_peer]
      iexists f; iexact Hs
    · iapply (records_reached m ρ K (peer d t) (.inl ())); iexact HR
  iintro HO
  iapply Hk
  iexists W; iexact HO

/-- The barrier: all partners have given their slots. -/
theorem step_barrier {α : Type} {Q : α → sProp 𝕄} {k : PUnit → Prog (TpuEff nD τ sig (Elt F) Λ₀ .tc) α}
    (a : ℕ) (ha : 7 = a) :
    records m ρ K ⊢ iprop(levAts L lv -∗ cred (tallyAt (barCell d) () 7) -∗ due d (owedFrom (recvDebt d) 0) -∗ atPos EX (barCell d) 0 ∅ 0
      -∗ (iprop(due d (owedFrom (recvDebt d) 0) ∗ atPos EX (barCell d) 1 ∅ 0 ∗ bigSep Finset.univ fun t => roomPay d t)
          -∗ wp frame (wpE (defs₀ (F := F)) 𝒱₀ (d : Thread nD τ) none) Set.univ (k ⟨⟩) Q)
      -∗ wp frame (wpE (defs₀ (F := F)) 𝒱₀ (d : Thread nD τ) none) Set.univ (.op (.semWait barS a) k) Q) := by
  subst ha
  iintro #HR #Hl Hc HO Ha Hk
  unfold due
  icases HO with ⟨%W, HO⟩
  iapply (Rounds.wp_wait_rest_token 𝒱₀ EX (sched m ρ) (d : Thread nD τ) none (κ := K (d, .inl ()))
      (wpE_semWait_eq 𝒱₀ (d : Thread nD τ) none Set.univ) (Set.mem_univ _) () (O := owedFrom (recvDebt d) 0) (W := W) (R := 0) (m := 0) (T := ∅)
      (by rw [expect_bar])) $$ [Hc HO Ha]
  · isplitr; · iapply (records_inv m ρ K d (.inl ())); iexact HR
    isplitl [Hc]; · iexact Hc
    isplitl [HO]; · iexact HO
    isplitr; · iapply (mayWait_bar d); iexact Hl
    iexact Ha
  iintro ⟨HO, Ha, -, Hp⟩
  ihave Hp := (Entails.of_eq (rest_bar m ρ d)) $$ Hp
  iapply Hk
  isplitl [HO]; · iexists _; iexact HO
  isplitl [Ha]; · iexact Ha
  iexact Hp

/-- A wait on an own semaphore with nothing owed: the payload arrives and the cell closes at zero. -/
theorem step_own {α : Type} {Q : α → sProp 𝕄} {k : PUnit → Prog (TpuEff nD τ sig (Elt F) Λ₀ .tc) α}
    (j : Fin 7 ⊕ Fin 7) (w : TpuEff nD τ sig (Elt F) Λ₀ .tc PUnit)
    (hw : ∀ P : PUnit → sProp 𝕄, wpE (defs₀ (F := F)) 𝒱₀ (d : Thread nD τ) none Set.univ w P = waitSpec (d : Thread nD τ) Set.univ (csem (.inr j)) N P) :
    records m ρ K ⊢ iprop(cred (tallyAt (cell d (.inr j)) () N) -∗ due d 0 -∗ atPos EX (cell d (.inr j)) 0 ∅ 0
      -∗ (iprop(due d 0 ∗ semVal (cell d (.inr j)) 0 ∗ payOf m ρ d 0 (some (.inr j)))
          -∗ wp frame (wpE (defs₀ (F := F)) 𝒱₀ (d : Thread nD τ) none) Set.univ (k ⟨⟩) Q)
      -∗ wp frame (wpE (defs₀ (F := F)) 𝒱₀ (d : Thread nD τ) none) Set.univ (.op w k) Q) := by
  iintro #HR Hc HO Ha Hk
  unfold due
  icases HO with ⟨%W, HO⟩
  iapply (Rounds.wp_wait_rest_token 𝒱₀ EX (sched m ρ) (d : Thread nD τ) none (κ := K (d, .inr j)) (sm := csem (.inr j)) (k' := N)
      hw (Set.mem_univ _) () (O := 0) (W := W) (R := 0) (m := 0) (T := ∅)
      (by rw [Nat.zero_add]; exact (expect_own m ρ d j).symm)) $$ [Hc HO Ha]
  · isplitr; · iapply (records_inv m ρ K d (.inr j)); iexact HR
    isplitl [Hc]; · iexact Hc
    isplitl [HO]; · iexact HO
    isplitr; · rw [MayWait_zero]; iempintro
    iexact Ha
  iintro ⟨HO, Ha, -, Hp⟩
  ihave Hp := (Entails.of_eq (rest_own m ρ d j)) $$ Hp
  imod (Rounds.cell_close EX (sched m ρ) (Set.mem_univ (K (d, .inr j))) (fun h => h) (R := 0 + 1) (duties_later m ρ (cell d (.inr j)))) $$ [Ha] with Hz
  · isplitr; · iapply (records_inv m ρ K d (.inr j)); iexact HR
    iexact Ha
  iapply Hk
  isplitl [HO]; · iexists _; iexact HO
  isplitl [Hz]; · iexact Hz
  iexact Hp

/-- The arrival of slot `t + 1`. -/
theorem step_slot {α : Type} {Q : α → sProp 𝕄} {k : PUnit → Prog (TpuEff nD τ sig (Elt F) Λ₀ .tc) α}
    (t : Fin 7) (hg : gM.IsWhole) {h₁ h₂} :
    records m ρ K ⊢ iprop(cred (tallyAt (recvCell d t) () N) -∗ due d 0 -∗ atPos EX (recvCell d t) 0 ∅ 0
      -∗ (iprop(due d 0 ∗ semVal (recvCell d t) 0 ∗ slotPts d t.succ fullShare (gathered m ρ d))
          -∗ wp frame (wpE (defs₀ (F := F)) 𝒱₀ (d : Thread nD τ) none) Set.univ (k ⟨⟩) Q)
      -∗ wp frame (wpE (defs₀ (F := F)) 𝒱₀ (d : Thread nD τ) none) Set.univ
          (.op (.waitDma2 (semOf recvS t) (slot gM 0) (slot gM t.succ) h₁ h₂) k) Q) :=
  step_own m ρ K d (.inr t) _ (wpE_waitDma2_eq 𝒱₀ (d : Thread nD τ) none Set.univ)

/-- The end of copy `t`. -/
theorem step_sent {α : Type} {Q : α → sProp 𝕄} {k : PUnit → Prog (TpuEff nD τ sig (Elt F) Λ₀ .tc) α}
    (t : Fin 7) {h₁ h₂} :
    records m ρ K ⊢ iprop(cred (tallyAt (sendCell d t) () N) -∗ due d 0 -∗ atPos EX (sendCell d t) 0 ∅ 0
      -∗ (iprop(due d 0 ∗ semVal (sendCell d t) 0 ∗ slotPts d 0 (lent t) (gathered m ρ d))
          -∗ wp frame (wpE (defs₀ (F := F)) 𝒱₀ (d : Thread nD τ) none) Set.univ (k ⟨⟩) Q)
      -∗ wp frame (wpE (defs₀ (F := F)) 𝒱₀ (d : Thread nD τ) none) Set.univ
          (.op (.waitDma2 (semOf sendS t) (slot gM t.succ) (slot gM 0) h₁ h₂) k) Q) :=
  step_own m ρ K d (.inl t) _ (wpE_waitDma2_eq 𝒱₀ (d : Thread nD τ) none Set.univ)

set_option maxHeartbeats 2000000 in
/-- Copy `t`: the lent share of slot 0 and the partner's slot go with it. -/
theorem step_copy {α : Type} {Q : α → sProp 𝕄} {k : PUnit → Prog (TpuEff nD τ sig (Elt F) Λ₀ .tc) α}
    (t : Fin 7) (n : Dev nD) (hn : n = peer d t) (f) (i j : ℕ) (hi : t.val = i) (hj : t.val + 1 = j)
    {hsc : (slot gM t.succ : Memref sig (Dev.tc n : Thread nD τ).2.kind .vmem S256x128 .bf16).view.ref.isScScratch = false}
    {hsrc : (slot gM 0).view.WordExact} {hdst : (slot gM t.succ).view.WordExact}
    {hsem : DmaTarget.Typed .vmem (.dma (semOf recvS t)) (.remote (Dev.tc n : Thread nD τ) (slot gM t.succ) (.dma (semOf sendS t)) hsc)} :
    records m ρ K ⊢ iprop(due d (owedFrom (recvDebt d) i)
      -∗ iprop(dutyTok EX (recvCell (peer d t) t) 0 0 ∗ dutyTok EX (sendCell d t) 0 0)
      -∗ slotPts d 0 (lent t) (gathered m ρ d) -∗ slotPts (peer d t) t.succ fullShare f
      -∗ (iprop(cred (tallyAt (sendCell d t) () N) ∗ due d (owedFrom (recvDebt d) j))
          -∗ wp frame (wpE (defs₀ (F := F)) 𝒱₀ (d : Thread nD τ) none) Set.univ (k ⟨⟩) Q)
      -∗ wp frame (wpE (defs₀ (F := F)) 𝒱₀ (d : Thread nD τ) none) Set.univ
          (.op (.enqueueDma (slot gM 0) (.remote (Dev.tc n : Thread nD τ) (slot gM t.succ) (.dma (semOf sendS t)) hsc)
            (.dma (semOf recvS t)) hsrc hdst hsem) k) Q) := by
  subst hn hi hj
  iintro #HR HO ⟨Hr, Hs⟩ Hsrc Hdst Hk
  unfold due
  icases HO with ⟨%W, HO⟩
  unfold slotPts
  iapply (Rounds.wp_send_pointsTo 𝒱₀ EX (sched m ρ) (d : Thread nD τ) none (κ₁ := K (d, .inr (.inl t))) (κ₂ := K (peer d t, .inr (.inr t)))
    (c' := (peer d t : Thread nD τ)) (sp' := .vmem) (defs := defs₀ (F := F)) (src := slot gM 0) (dst := slot gM t.succ) (sS := .dma (semOf sendS t)) (sem := .dma (semOf recvS t))
    (hsc := hsc) (hsrc := hsrc) (hdst := hdst) (hsem := hsem) (k := k) (Q := Q) (Es := Set.univ)
    (r₁ := 0) (r₂ := 0) (d₁ := 0) (d₂ := 0) (fs := gathered m ρ d) (fd := f)
    (by rw [duties_cell m ρ d (.inr (.inl t))]; exact Finset.mem_singleton_self _)
    (by rw [duties_cell m ρ (peer d t) (.inr (.inr t))]; exact Finset.mem_singleton_self _)
    () () N rfl (amount_cell m ρ d (.inr (.inl t)) 0) (amount_cell m ρ (peer d t) (.inr (.inr t)) 0)
    (owedFrom (recvDebt d) (t.val + 1)) (owedFrom_step _ t) (W := W)
    (by rw [payload_cell m ρ d (.inr (.inl t))]; exact BI.Entails.refl _)
    (by
      rw [payload_cell m ρ (peer d t) (.inr (.inr t)), read_gathered, hop_zero]
      have h := landed m ρ (peer d t) t.succ f fullShare
      rw [show hop (peer d t) t.succ = d from peer_peer d t] at h
      exact Entails.of_eq h)) $$ [HO Hr Hs Hsrc Hdst]
  · isplitr; · iapply (records_inv m ρ K d (.inr (.inl t))); iexact HR
    isplitr; · iapply (records_inv m ρ K (peer d t) (.inr (.inr t))); iexact HR
    isplitl [Hsrc]; · iexact Hsrc
    isplitl [Hdst]; · iexact Hdst
    isplitl [HO]; · iexact HO
    isplitl [Hs]; · iexact Hs
    isplitr; · iapply (records_reached m ρ K d (.inr (.inl t))); iexact HR
    isplitl [Hr]; · iexact Hr
    iapply (records_reached m ρ K (peer d t) (.inr (.inr t))); iexact HR
  iintro ⟨Hc, HO⟩
  iapply Hk
  isplitl [Hc]; · iexact Hc
  iexists W; iexact HO

end Steps

end Cert.KernelIdeal.Own
-- ==== Proof.Run.lean ====
/- The phases of the kernel's body on one device, each from what it needs to what it leaves: all
   signals, all copies, a merge of two arrived blocks, a merge of two merged ones, the end of all
   copies. -/
module

public import proofs.«01_k».proof.Proof.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Key → ℕ) (d : Dev nD)

theorem corner : (![0, 0] : Fin 2 → ℕ) = fun _ => 0 := funext fun a => by fin_cases a <;> rfl

/-! ## Splitting the gather buffer -/

omit [FloatOps F] in
/-- One assertion for each of the seven distances. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The gather buffer is slot 0 and the seven others. -/
theorem slots_whole (q : PosShare TreeShare) (f : (cc0_scratch0 : Ref sig .tc).ty.Contents (Elt F)) :
    (((d : Thread nD τ).loc cc0_scratch0 ↦{q} f) : sProp 𝕄)
      = iprop(slotPts d 0 q f ∗ bigSep Finset.univ fun t : Fin 7 => slotPts d t.succ q f) := by
  rw [bigSep_fin7]
  exact (Ring.pointsTo_blocks (ℓ := (d : Thread nD τ).loc cc0_scratch0) slotSet (fun t t' h => slots_disjoint t t' h) slots_cover f).trans
    (bigSep_univ_eq_bigSepL [0, Fin.succ 0, Fin.succ 1, Fin.succ 2, Fin.succ 3, Fin.succ 4, Fin.succ 5, Fin.succ 6] (by decide) (by decide) _)

omit [FloatOps F] in
/-- A slot is its kept share and the seven shares to lend. -/
theorem slot_shares (t : Fin 8) (f : (cc0_scratch0 : Ref sig .tc).ty.Contents (Elt F)) :
    (slotPts d t fullShare f : sProp 𝕄) ⊣⊢ iprop(slotPts d t kept f ∗ bigSep Finset.univ fun u : Fin 7 => slotPts d t (lent u) f) := by
  unfold slotPts
  exact Transfers.pointsTo_toks fullShare 7

omit [FloatOps F] in
theorem band_slots {t t' : Fin 8} {o : ℕ} (ho : o = 256 * t.val) (ht : t.val + 1 = t'.val) (inb) :
    gM.view.setOn (band o 512 inb).toLoadRect.set ⊆ slotSet t ∪ slotSet t' := by
  intro i hi
  obtain ⟨j, hj, rfl⟩ := Finset.mem_map.1 hi
  have h := (Rect.mem_set_unit (s := rows 2048) (off := ![o, 0]) (size := (rows 512).size) (inb := inb) (i := j)).1 hj 0
  have h1 : o ≤ (j 0).val := h.1
  have h2 : (j 0).val < o + 512 := h.2
  rw [Finset.mem_union]
  rcases Nat.lt_or_ge (j 0).val (o + 256) with hl | hl
  · exact Or.inl ((mem_slot t j).2 ⟨by omega, by omega⟩)
  · exact Or.inr ((mem_slot t' j).2 ⟨by omega, by omega⟩)

omit [FloatOps F] in
theorem slot_read (t : Fin 8) : gM.view.setOn (slotRect t).toLoadRect.set ⊆ slotSet t := by
  intro i hi
  obtain ⟨j, hj, rfl⟩ := Finset.mem_map.1 hi
  have h := (Rect.mem_set_unit (s := rows 2048) (off := ![256 * t.val, 0]) (size := (rows 256).size) (inb := inb_slot t) (i := j)).1 hj 0
  exact (mem_slot t j).2 ⟨h.1, h.2⟩

/-! ## The work buffer -/

/-- The work buffer of device `d`. -/
def workPts (f : Wide F) : sProp 𝕄 := (d : Thread nD τ).loc cc0_scratch1 ↦{fullShare} f

/-- Rows `o`, …, `o + L - 1` overwritten by `A`. -/
abbrev put {L : ℕ} (f : Wide F) (o : ℕ) (A : FVec F (rows L) .bf16)
    (inb : ∀ a, (![o, 0] : Fin 2 → ℕ) a + (rows L).size a ≤ (rows 2048).size a) : Wide F :=
  (wM.access (band o L inb)).write (Elt F) f A Finset.univ

/-- Two neighbouring runs of 512 rows make one of 1024. -/
theorem halves (f : Wide F) (o o' : ℕ) (ho : o + 512 = o') (A B : FVec F (rows 512) .bf16) (i₁) (i₂) :
    Holds (put (put f o A i₁) o' B i₂) o (stack 1024 rfl A B) := by
  subst ho
  exact Holds.join rfl (Holds.write (write_holds f A i₁) B i₂ (Or.inl le_rfl)) (write_holds _ B i₂)

/-- Both halves of the work buffer, the upper one kept while the lower one is made. -/
theorem both (f : Wide F) (A B : FVec F (rows 1024) .bf16) (C D : FVec F (rows 512) .bf16) (i₁) (i₂) (i₃) (i₄) :
    Holds (put (put (put (put f 0 A i₁) 1024 C i₂) 1536 D i₃) 1024 B i₄) 0 (stack 2048 rfl A B) := by
  have h1 := Holds.write (write_holds f A i₁) C i₂ (Or.inl (by decide))
  have h2 := Holds.write h1 D i₃ (Or.inl (by decide))
  exact Holds.join rfl (Holds.write h2 B i₄ (Or.inl (by decide))) (write_holds _ B i₄)

section Steps

/-- The sorted block stored in slot 0. -/
theorem step_sorted {α : Type} {Q : α → sProp 𝕄} {p : Prog (TpuEff nD τ sig (Elt F) Λ₀ .tc) α}
    (f : (cc0_scratch0 : Ref sig .tc).ty.Contents (Elt F)) {h₁ h₃ h₄} :
    (slotPts d 0 fullShare f : sProp 𝕄) ⊢ iprop(
      (slotPts d 0 fullShare (gathered m ρ d) -∗ wp frame (wpE (defs₀ (F := F)) 𝒱₀ (d : Thread nD τ) none) Set.univ p Q)
      -∗ wp frame (wpE (defs₀ (F := F)) 𝒱₀ (d : Thread nD τ) none) Set.univ
          (.op (TpuEff.load (e := .bf16) gM (slotRect 0).toLoadRect h₁ : TpuEff nD τ sig (Elt F) Λ₀ .tc (FVec F (rows 256) .bf16)) fun _ =>
            .op (.store gM (slotRect 0) (sorted m ρ d) Finset.univ h₃ h₄) fun _ => p) Q) := by
  have h := landed m ρ d 0 f fullShare
  rw [hop_zero] at h
  rw [← h]
  unfold slotPts
  iintro Hs Hk
  iapply (wp_load 𝒱₀ (d : Thread nD τ) none Set.univ (m := gM) (slot_read 0)) $$ Hs; iintro Hs
  iapply (wp_store 𝒱₀ (d : Thread nD τ) none Set.univ (m := gM) (r := slotRect 0) (Mk := Finset.univ) (S := slotSet 0) (View.setOn_univ _).le) $$ Hs; iintro Hs
  iapply Hk
  iexact Hs

/-- Two neighbouring slots merged into the work buffer. -/
theorem step_merge {α : Type} {Q : α → sProp 𝕄} {p : Prog (TpuEff nD τ sig (Elt F) Λ₀ .tc) α}
    (t t' : Fin 8) (o : ℕ) (up : Bool) (q : PosShare TreeShare) (f : Wide F)
    (ho : o = 256 * t.val) (ht : t.val + 1 = t'.val) {inb h₁ h₂ h₃ h₄} :
    (slotPts d t q (gathered m ρ d) : sProp 𝕄) ⊢ iprop(slotPts d t' q (gathered m ρ d) -∗ workPts d f
      -∗ (iprop(slotPts d t q (gathered m ρ d) ∗ slotPts d t' q (gathered m ρ d)
            ∗ workPts d (put f o (stored 512 (merge512 up (stack 512 rfl (sorted m ρ (hop d t)) (sorted m ρ (hop d t'))))) inb))
          -∗ wp frame (wpE (defs₀ (F := F)) 𝒱₀ (d : Thread nD τ) none) Set.univ p Q)
      -∗ wp frame (wpE (defs₀ (F := F)) 𝒱₀ (d : Thread nD τ) none) Set.univ
          (.op (TpuEff.load (e := .bf16) gM (band o 512 inb).toLoadRect h₁ : TpuEff nD τ sig (Elt F) Λ₀ .tc (FVec F (rows 512) .bf16)) fun (v : FVec F (rows 512) .bf16) => .op (TpuEff.load (e := .bf16) wM (band o 512 inb).toLoadRect h₂ : TpuEff nD τ sig (Elt F) Λ₀ .tc (FVec F (rows 512) .bf16)) fun _ =>
            .op (.store wM (band o 512 inb) (stored 512 (merge512 up v)) Finset.univ h₃ h₄) fun _ => p) Q) := by
  have hd : Disjoint (slotSet t) (slotSet t') := slots_disjoint t t' fun h => by rw [h] at ht; omega
  unfold slotPts workPts
  iintro H1 H2 Hw Hk
  ihave H := (pointsTo_union (ℓ := (d : Thread nD τ).loc cc0_scratch0) (q := q) (f := gathered m ρ d) hd).2 $$ [H1 H2]
  · isplitl [H1] <;> iassumption
  iapply (wp_load 𝒱₀ (d : Thread nD τ) none Set.univ (m := gM) (band_slots ho ht inb)) $$ H; iintro H
  rw [read_pair m ρ d t t' o ho ht inb]
  iapply (wp_load 𝒱₀ (d : Thread nD τ) none Set.univ (m := wM) (Finset.subset_univ _)) $$ Hw; iintro Hw
  iapply (wp_store 𝒱₀ (d : Thread nD τ) none Set.univ (m := wM) (r := band o 512 inb) (Mk := Finset.univ) (Finset.subset_univ _)) $$ Hw; iintro Hw
  ihave H := (pointsTo_union (ℓ := (d : Thread nD τ).loc cc0_scratch0) (q := q) (f := gathered m ρ d) hd).1 $$ H
  icases H with ⟨H1, H2⟩
  iapply Hk
  isplitl [H1]; · iexact H1
  isplitl [H2]; · iexact H2
  iexact Hw

/-- Rows of the work buffer merged in place. -/
theorem step_remerge {α : Type} {Q : α → sProp 𝕄} {p : Prog (TpuEff nD τ sig (Elt F) Λ₀ .tc) α}
    (o : ℕ) (up : Bool) (f : Wide F) (A : FVec F (rows 1024) .bf16) (hA : Holds f o A) {inb h₁ h₂ h₃ h₄} :
    (workPts d f : sProp 𝕄) ⊢ iprop(
      (workPts d (put f o (stored 1024 (merge1024 up A)) inb)
          -∗ wp frame (wpE (defs₀ (F := F)) 𝒱₀ (d : Thread nD τ) none) Set.univ p Q)
      -∗ wp frame (wpE (defs₀ (F := F)) 𝒱₀ (d : Thread nD τ) none) Set.univ
          (.op (TpuEff.load (e := .bf16) wM (band o 1024 inb).toLoadRect h₁ : TpuEff nD τ sig (Elt F) Λ₀ .tc (FVec F (rows 1024) .bf16)) fun (v : FVec F (rows 1024) .bf16) => .op (TpuEff.load (e := .bf16) wM (band o 1024 inb).toLoadRect h₂ : TpuEff nD τ sig (Elt F) Λ₀ .tc (FVec F (rows 1024) .bf16)) fun _ =>
            .op (.store wM (band o 1024 inb) (stored 1024 (merge1024 up v)) Finset.univ h₃ h₄) fun _ => p) Q) := by
  unfold workPts
  iintro Hw Hk
  iapply (wp_load 𝒱₀ (d : Thread nD τ) none Set.univ (m := wM) (Finset.subset_univ _)) $$ Hw; iintro Hw
  rw [show wM.view.readAt (Elt F) (band o 1024 inb).toLoadRect f = A from hA.read inb]
  iapply (wp_load 𝒱₀ (d : Thread nD τ) none Set.univ (m := wM) (Finset.subset_univ _)) $$ Hw; iintro Hw
  iapply (wp_store 𝒱₀ (d : Thread nD τ) none Set.univ (m := wM) (r := band o 1024 inb) (Mk := Finset.univ) (Finset.subset_univ _)) $$ Hw; iintro Hw
  iapply Hk
  iexact Hw

omit [FloatOps F] in
theorem write_out {inb : ∀ a, (![0, 0] : Fin 2 → ℕ) a + (rows 256).size a ≤ (rows 256).size a}
    (f w : (cc0_stg1_0 : Ref sig .tc).ty.Contents (Elt F)) :
    (oM.access (Rect.unit (s := rows 256) ![0, 0] (rows 256).size inb)).write (Elt F) f w Finset.univ = w :=
  Memref.write_access_unit_zero_univ (Elt F) cc0_stg1_0 corner inb f w

/-- The device's block of the merged rows stored as the result. -/
theorem step_result {α : Type} {Q : α → sProp 𝕄} {p : Prog (TpuEff nD τ sig (Elt F) Λ₀ .tc) α}
    (f : Wide F) (A : FVec F (rows 2048) .bf16) (hA : Holds f 0 A) (g : (cc0_stg1_0 : Ref sig .tc).ty.Contents (Elt F)) {inb : ∀ a, (![0, 0] : Fin 2 → ℕ) a + (rows 2048).size a ≤ (rows 2048).size a} {inb' : ∀ a, (![0, 0] : Fin 2 → ℕ) a + (rows 256).size a ≤ (rows 256).size a} {h₁ h₂ h₃ h₄} :
    (workPts d f : sProp 𝕄) ⊢ iprop(((d : Thread nD τ).loc cc0_stg1_0 ↦{fullShare} g)
      -∗ (iprop(workPts d f ∗ ((d : Thread nD τ).loc cc0_stg1_0 ↦{fullShare} (extf .f32 (ownBlock (number d) A) bitsLt_bf16_f32 : (cc0_stg1_0 : Ref sig .tc).ty.Contents (Elt F))))
          -∗ wp frame (wpE (defs₀ (F := F)) 𝒱₀ (d : Thread nD τ) none) Set.univ p Q)
      -∗ wp frame (wpE (defs₀ (F := F)) 𝒱₀ (d : Thread nD τ) none) Set.univ
          (.op (TpuEff.load (e := .bf16) wM (band 0 2048 inb).toLoadRect h₁ : TpuEff nD τ sig (Elt F) Λ₀ .tc (FVec F (rows 2048) .bf16)) fun v =>
            .op (TpuEff.load (e := .f32) oM (Rect.unit (s := rows 256) ![0, 0] (rows 256).size inb').toLoadRect h₂ : TpuEff nD τ sig (Elt F) Λ₀ .tc (FVec F (rows 256) .f32)) fun _ =>
            .op (.store oM (Rect.unit (s := rows 256) ![0, 0] (rows 256).size inb') (extf .f32 (ownBlock (number d) v) bitsLt_bf16_f32) Finset.univ h₃ h₄) fun _ => p) Q) := by
  unfold workPts
  iintro Hw Ho Hk
  iapply (wp_load 𝒱₀ (d : Thread nD τ) none Set.univ (m := wM) (Finset.subset_univ _)) $$ Hw; iintro Hw
  rw [show wM.view.readAt (Elt F) (band 0 2048 inb).toLoadRect f = A from hA.read inb]
  iapply (wp_load 𝒱₀ (d : Thread nD τ) none Set.univ (m := oM) (Finset.subset_univ _)) $$ Ho; iintro Ho
  iapply (wp_store 𝒱₀ (d : Thread nD τ) none Set.univ (m := oM) (r := Rect.unit (s := rows 256) ![0, 0] (rows 256).size inb') (Mk := Finset.univ) (Finset.subset_univ _)) $$ Ho; iintro Ho
  rw [write_out]
  iapply Hk
  isplitl [Hw]; · iexact Hw
  iexact Ho

/-- All signals: every partner gets its slot. -/
theorem all_signals {α : Type} {Q : α → sProp 𝕄} {p : Prog (TpuEff nD τ sig (Elt F) Λ₀ .tc) α}
    (f : (cc0_scratch0 : Ref sig .tc).ty.Contents (Elt F)) (a : ℤ) (ha : ((1 : ℕ) : ℤ) = a) :
    records m ρ K ⊢ iprop(due d (O₀ d) -∗ (bigSep Finset.univ fun t : Fin 7 => dutyTok EX (barCell (peer d t)) 0 t)
      -∗ (bigSep Finset.univ fun t : Fin 7 => slotPts d t.succ fullShare f)
      -∗ (due d (owedFrom (recvDebt d) 0) -∗ wp frame (wpE (defs₀ (F := F)) 𝒱₀ (d : Thread nD τ) none) Set.univ p Q)
      -∗ wp frame (wpE (defs₀ (F := F)) 𝒱₀ (d : Thread nD τ) none) Set.univ
          (.op (.semSignal (sigDev d 0 : Thread nD τ) barS a) fun _ => .op (.semSignal (sigDev d 1 : Thread nD τ) barS a) fun _ =>
            .op (.semSignal (sigDev d 2 : Thread nD τ) barS a) fun _ => .op (.semSignal (sigDev d 3 : Thread nD τ) barS a) fun _ =>
            .op (.semSignal (sigDev d 4 : Thread nD τ) barS a) fun _ => .op (.semSignal (sigDev d 5 : Thread nD τ) barS a) fun _ =>
            .op (.semSignal (sigDev d 6 : Thread nD τ) barS a) fun _ => p) Q) := by
  rw [bigSep_fin7, bigSep_fin7]
  iintro #HR HO ⟨T0, T1, T2, T3, T4, T5, T6⟩ ⟨S0, S1, S2, S3, S4, S5, S6⟩ Hk
  unfold O₀
  iapply (step_signal m ρ K d 0 _ (sigDev_eq d 0) _ f 0 1 rfl rfl a ha) $$ HR HO T0 S0; iintro HO
  iapply (step_signal m ρ K d 1 _ (sigDev_eq d 1) _ f 1 2 rfl rfl a ha) $$ HR HO T1 S1; iintro HO
  iapply (step_signal m ρ K d 2 _ (sigDev_eq d 2) _ f 2 3 rfl rfl a ha) $$ HR HO T2 S2; iintro HO
  iapply (step_signal m ρ K d 3 _ (sigDev_eq d 3) _ f 3 4 rfl rfl a ha) $$ HR HO T3 S3; iintro HO
  iapply (step_signal m ρ K d 4 _ (sigDev_eq d 4) _ f 4 5 rfl rfl a ha) $$ HR HO T4 S4; iintro HO
  iapply (step_signal m ρ K d 5 _ (sigDev_eq d 5) _ f 5 6 rfl rfl a ha) $$ HR HO T5 S5; iintro HO
  iapply (step_signal m ρ K d 6 _ (sigDev_eq d 6) _ f 6 7 rfl rfl a ha) $$ HR HO T6 S6; iintro HO
  iapply Hk
  rw [owedFrom_end, add_zero]
  iexact HO

/-- All copies: every partner's slot gets the sorted block. -/
theorem all_copies {α : Type} {Q : α → sProp 𝕄} {p : Prog (TpuEff nD τ sig (Elt F) Λ₀ .tc) α} (hg : gM.IsWhole) :
    records m ρ K ⊢ iprop(due d (owedFrom (recvDebt d) 0)
      -∗ (bigSep Finset.univ fun t : Fin 7 => iprop(dutyTok EX (recvCell (peer d t) t) 0 0 ∗ dutyTok EX (sendCell d t) 0 0))
      -∗ (bigSep Finset.univ fun t : Fin 7 => slotPts d 0 (lent t) (gathered m ρ d))
      -∗ (bigSep Finset.univ fun t : Fin 7 => roomPay d t)
      -∗ (iprop(due d 0 ∗ bigSep Finset.univ fun t : Fin 7 => cred (tallyAt (sendCell d t) () N))
          -∗ wp frame (wpE (defs₀ (F := F)) 𝒱₀ (d : Thread nD τ) none) Set.univ p Q)
      -∗ wp frame (wpE (defs₀ (F := F)) 𝒱₀ (d : Thread nD τ) none) Set.univ
          ((copyOut gM hg sendS recvS d 0).bind fun _ => (copyOut gM hg sendS recvS d 1).bind fun _ =>
            (copyOut gM hg sendS recvS d 2).bind fun _ => (copyOut gM hg sendS recvS d 3).bind fun _ =>
            (copyOut gM hg sendS recvS d 4).bind fun _ => (copyOut gM hg sendS recvS d 5).bind fun _ =>
            (copyOut gM hg sendS recvS d 6).bind fun _ => p) Q) := by
  rw [bigSep_fin7, bigSep_fin7, bigSep_fin7, bigSep_fin7]
  unfold copyOut roomPay
  simp only [Prog.lift, Prog.bind_op, Prog.bind_ret]
  iintro #HR HO ⟨T0, T1, T2, T3, T4, T5, T6⟩ ⟨S0, S1, S2, S3, S4, S5, S6⟩
    ⟨⟨%f0, R0⟩, ⟨%f1, R1⟩, ⟨%f2, R2⟩, ⟨%f3, R3⟩, ⟨%f4, R4⟩, ⟨%f5, R5⟩, ⟨%f6, R6⟩⟩ Hk
  iapply (step_copy m ρ K d 0 _ (copyDev_eq d 0) f0 0 1 rfl rfl) $$ HR HO T0 S0 R0; iintro ⟨C0, HO⟩
  iapply (step_copy m ρ K d 1 _ (copyDev_eq d 1) f1 1 2 rfl rfl) $$ HR HO T1 S1 R1; iintro ⟨C1, HO⟩
  iapply (step_copy m ρ K d 2 _ (copyDev_eq d 2) f2 2 3 rfl rfl) $$ HR HO T2 S2 R2; iintro ⟨C2, HO⟩
  iapply (step_copy m ρ K d 3 _ (copyDev_eq d 3) f3 3 4 rfl rfl) $$ HR HO T3 S3 R3; iintro ⟨C3, HO⟩
  iapply (step_copy m ρ K d 4 _ (copyDev_eq d 4) f4 4 5 rfl rfl) $$ HR HO T4 S4 R4; iintro ⟨C4, HO⟩
  iapply (step_copy m ρ K d 5 _ (copyDev_eq d 5) f5 5 6 rfl rfl) $$ HR HO T5 S5 R5; iintro ⟨C5, HO⟩
  iapply (step_copy m ρ K d 6 _ (copyDev_eq d 6) f6 6 7 rfl rfl) $$ HR HO T6 S6 R6; iintro ⟨C6, HO⟩
  iapply Hk
  rw [owedFrom_end]
  isplitl [HO]; · iexact HO
  isplitl [C0]; · iexact C0
  isplitl [C1]; · iexact C1
  isplitl [C2]; · iexact C2
  isplitl [C3]; · iexact C3
  isplitl [C4]; · iexact C4
  isplitl [C5] <;> iassumption

/-- The end of all copies: slot 0 is whole again and the send cells are closed. -/
theorem all_sent {α : Type} {Q : α → sProp 𝕄} {p : Prog (TpuEff nD τ sig (Elt F) Λ₀ .tc) α} (hg : gM.IsWhole) :
    records m ρ K ⊢ iprop(due d 0
      -∗ (bigSep Finset.univ fun t : Fin 7 => cred (tallyAt (sendCell d t) () N))
      -∗ (bigSep Finset.univ fun t : Fin 7 => atPos EX (sendCell d t) 0 ∅ 0)
      -∗ slotPts d 0 kept (gathered m ρ d)
      -∗ (iprop(due d 0 ∗ (bigSep Finset.univ fun t : Fin 7 => semVal (sendCell d t) 0) ∗ slotPts d 0 fullShare (gathered m ρ d))
          -∗ wp frame (wpE (defs₀ (F := F)) 𝒱₀ (d : Thread nD τ) none) Set.univ p Q)
      -∗ wp frame (wpE (defs₀ (F := F)) 𝒱₀ (d : Thread nD τ) none) Set.univ
          ((awaitCopy gM hg sendS 0).bind fun _ => (awaitCopy gM hg sendS 1).bind fun _ =>
            (awaitCopy gM hg sendS 2).bind fun _ => (awaitCopy gM hg sendS 3).bind fun _ =>
            (awaitCopy gM hg sendS 4).bind fun _ => (awaitCopy gM hg sendS 5).bind fun _ =>
            (awaitCopy gM hg sendS 6).bind fun _ => p) Q) := by
  rw [bigSep_fin7, bigSep_fin7, bigSep_fin7]
  unfold awaitCopy
  simp only [Prog.lift, Prog.bind_op, Prog.bind_ret]
  iintro #HR HO ⟨C0, C1, C2, C3, C4, C5, C6⟩ ⟨A0, A1, A2, A3, A4, A5, A6⟩ H Hk
  iapply (step_sent m ρ K d 0) $$ HR C0 HO A0; iintro ⟨HO, Z0, S0⟩
  iapply (step_sent m ρ K d 1) $$ HR C1 HO A1; iintro ⟨HO, Z1, S1⟩
  iapply (step_sent m ρ K d 2) $$ HR C2 HO A2; iintro ⟨HO, Z2, S2⟩
  iapply (step_sent m ρ K d 3) $$ HR C3 HO A3; iintro ⟨HO, Z3, S3⟩
  iapply (step_sent m ρ K d 4) $$ HR C4 HO A4; iintro ⟨HO, Z4, S4⟩
  iapply (step_sent m ρ K d 5) $$ HR C5 HO A5; iintro ⟨HO, Z5, S5⟩
  iapply (step_sent m ρ K d 6) $$ HR C6 HO A6; iintro ⟨HO, Z6, S6⟩
  iapply Hk
  isplitl [HO]; · iexact HO
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5] <;> iassumption
  · iapply (slot_shares d 0 (gathered m ρ d)).2
    rw [bigSep_fin7]
    isplitl [H]; · iexact H
    isplitl [S0]; · iexact S0
    isplitl [S1]; · iexact S1
    isplitl [S2]; · iexact S2
    isplitl [S3]; · iexact S3
    isplitl [S4]; · iexact S4
    isplitl [S5] <;> iassumption

end Steps

end Cert.KernelIdeal.Own
-- ==== Proof.Sound.lean ====
/- The whole body on one device: from its share of the exchange and its staged input to the merged
   block, all semaphores back at zero. -/
module

public import proofs.«01_k».proof.Proof.Run

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's share of the exchange: its positions, and the duties it has to meet. -/
def ghost (K : Key → ℕ) (d : Dev nD) : sProp 𝕄 :=
  iprop(records m ρ K ∗ atPos EX (barCell d) 0 ∅ 0
    ∗ (bigSep Finset.univ fun t : Fin 7 => atPos EX (sendCell d t) 0 ∅ 0)
    ∗ (bigSep Finset.univ fun t : Fin 7 => atPos EX (recvCell d t) 0 ∅ 0)
    ∗ (bigSep Finset.univ fun t : Fin 7 => dutyTok EX (barCell (peer d t)) 0 t)
    ∗ bigSep Finset.univ fun t : Fin 7 => iprop(dutyTok EX (recvCell (peer d t) t) 0 0 ∗ dutyTok EX (sendCell d t) 0 0))

/-- The same with the credits of its own cells and the levels. -/
def start (d : Dev nD) : sProp 𝕄 :=
  iprop((∃ K, ghost m ρ K d) ∗ cred (tallyAt (barCell d) () 7)
    ∗ (bigSep Finset.univ fun t : Fin 7 => cred (tallyAt (recvCell d t) () N)) ∗ levAts L lv)

/-- The gather buffer of device `d`. -/
def gatherPts (d : Dev nD) (f : (cc0_scratch0 : Ref sig .tc).ty.Contents (Elt F)) : sProp 𝕄 :=
  (d : Thread nD τ).loc cc0_scratch0 ↦{fullShare} f

/-- Before the body. -/
def Φ₀ (d : Dev nD) : sProp 𝕄 := iprop(start m ρ d ∗ (∃ f, gatherPts d f) ∗ ∃ f, workPts d f)
/-- After the body: all semaphores are closed at zero. -/
def Φ₁ (d : Dev nD) : sProp 𝕄 :=
  iprop(gatherPts d (gathered m ρ d) ∗ (∃ f, workPts d f) ∗ (bigSep Finset.univ fun t : Fin 7 => semVal (sendCell d t) 0)
    ∗ (bigSep Finset.univ fun t : Fin 7 => semVal (recvCell d t) 0) ∗ semVal (barCell d) 0)

/-- What the pipeline around the body moves. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => xstg m ρ d
    | ⟨1, _⟩ => outAt m ρ d
  Φ t := match t with
    | ⟨0, _⟩ => Φ₀ m ρ d
    | ⟨_ + 1, _⟩ => Φ₁ m ρ d
  q _ := fullShare
  owed t := match t with
    | ⟨0, _⟩ => O₀ d
    | ⟨_ + 1, _⟩ => 0

omit [FloatOps F] in
theorem owns_buffer (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ ((d : Thread nD τ).loc b) ↦{fullShare} f) := by
  unfold owns; simp only [Memref.view_whole, View.read_whole, View.set_whole]

/-- A staged array. -/
abbrev staged (d : Dev nD) (b : Ref sig .tc) (X : b.ty.Contents (Elt F)) : sProp 𝕄 :=
  iprop(∃ f : Buf (Elt F) ((d : Thread nD τ).loc b), ⌜f = X⌝ ∗ ((d : Thread nD τ).loc b) ↦{fullShare} f)

/-- Before the body, all at the names of its invariants. -/
def bodyPre (K : Key → ℕ) (d : Dev nD) : sProp 𝕄 :=
  iprop((ghost m ρ K d ∗ cred (tallyAt (barCell d) () 7)
      ∗ (bigSep Finset.univ fun t : Fin 7 => cred (tallyAt (recvCell d t) () N)) ∗ levAts L lv
      ∗ (∃ f, gatherPts d f) ∗ ∃ f, workPts d f)
    ∗ (dats m ρ 0 d).owesAt () t0_0.castSucc
    ∗ (∃ e, staged d cc0_stg0_0 ((dats m ρ 0 d).before (0 : Fin 2) t0_0 e))
    ∗ (∃ e, staged d cc0_stg1_0 ((dats m ρ 0 d).before (1 : Fin 2) t0_0 e)))

/-- After the body. -/
def bodyPost (d : Dev nD) : sProp 𝕄 :=
  iprop(Φ₁ m ρ d ∗ (dats m ρ 0 d).owesAt () t0_0.succ ∗ staged d cc0_stg0_0 (xstg m ρ d) ∗ staged d cc0_stg1_0 (outAt m ρ d))

set_option maxHeartbeats 2000000 in
/-- The body does its work on device `d`. -/
theorem sound_body (K : Key → ℕ) (d : Dev nD) (Kt : PUnit → sProp 𝕄) :
    iprop(bodyPre m ρ K d ∗ (bodyPost m ρ d -∗ Kt ⟨⟩))
      ⊢ wp frame (wpE (defs₀ (F := F)) 𝒱₀ (d : Thread nD τ) none) Set.univ
          (cc0_body xM (Memref.isWhole_whole _) oM (Memref.isWhole_whole _) gM (Memref.isWhole_whole _)
            wM (Memref.isWhole_whole _) sendS recvS) Kt := by
  rw [cc0_body_eq]
  unfold body awaitSlot
  simp only [semSignalWord, semWaitWord, Prog.lift, Prog.bind_op, Prog.bind_ret, Prog.pure_eq_ret, wp_deviceId]
  unfold bodyPre ghost
  iintro ⟨⟨⟨⟨#HR, AB, AS, AV, TB, TC⟩, CB, CV, #Hl, ⟨%g0, Hg⟩, ⟨%w0, Hw⟩⟩, Ho, ⟨%d0, %x0, %hx, Hx⟩, ⟨%d1, %o0, %ho, Hout⟩⟩, Hk⟩
  have hx' : x0 = xstg m ρ d := by rw [hx]; unfold Dat.before; rw [if_pos (fetch0_0 t0_0)]; rfl
  subst hx'
  unfold Dat.owesAt Pipeline.owesWithin
  icases Ho with ⟨%W, %hW, HO⟩
  rw [show (dats m ρ 0 d).owed t0_0.castSucc = O₀ d from rfl]
  ihave HO := (show owes (d : Thread nD τ) (O₀ d) W ⊢ due d (O₀ d) from by
    unfold due; iintro H; iexists W; iexact H) $$ HO
  unfold gatherPts
  ihave Hg := (Entails.of_eq (slots_whole d fullShare g0)) $$ Hg
  icases Hg with ⟨S0, SS⟩
  iapply (all_signals m ρ K d g0 _ rfl) $$ HR HO TB SS; iintro HO
  iapply (step_barrier m ρ K d _ rfl) $$ HR Hl CB HO AB; iintro ⟨HO, AB, RR⟩
  iapply (wp_load 𝒱₀ (d : Thread nD τ) none Set.univ (m := xM) (Finset.subset_univ _)) $$ Hx; iintro Hx
  rw [show xM.view.readAt (Elt F) (Rect.unit (s := S256x128) ![0, 0] S256x128.size inb_S256x128_S256x128_0_0).toLoadRect (xstg m ρ d) = xstg m ρ d from
    Memref.readAt_unit_zero (Elt F) cc0_stg0_0 corner _ _]
  iapply (step_sorted m ρ d g0) $$ S0; iintro S0
  ihave S0 := (slot_shares d 0 (gathered m ρ d)).1 $$ S0
  icases S0 with ⟨S0, SL⟩
  iapply (all_copies m ρ K d (Memref.isWhole_whole _)) $$ HR HO TC SL RR; iintro ⟨HO, CS⟩
  ihave CV := (Entails.of_eq (bigSep_fin7 _)) $$ CV
  ihave AV := (Entails.of_eq (bigSep_fin7 _)) $$ AV
  icases CV with ⟨C0, C1, C2, C3, C4, C5, C6⟩
  icases AV with ⟨A0, A1, A2, A3, A4, A5, A6⟩
  iapply (step_slot m ρ K d 0 (Memref.isWhole_whole _)) $$ HR C0 HO A0; iintro ⟨HO, Z0, S1⟩
  ihave S1 := (slot_shares d (Fin.succ 0) (gathered m ρ d)).1 $$ S1
  icases S1 with ⟨S1, SX⟩
  iapply (step_merge m ρ d 0 (Fin.succ 0) 0 true kept w0 rfl rfl) $$ S0 S1 Hw; iintro ⟨S0, S1, Hw⟩
  ihave S1 := (slot_shares d (Fin.succ 0) (gathered m ρ d)).2 $$ [S1 SX]
  · isplitl [S1] <;> iassumption
  iapply (step_slot m ρ K d 1 (Memref.isWhole_whole _)) $$ HR C1 HO A1; iintro ⟨HO, Z1, S2⟩
  iapply (step_slot m ρ K d 2 (Memref.isWhole_whole _)) $$ HR C2 HO A2; iintro ⟨HO, Z2, S3⟩
  iapply (step_merge m ρ d (Fin.succ 1) (Fin.succ 2) 512 false fullShare _ rfl rfl) $$ S2 S3 Hw; iintro ⟨S2, S3, Hw⟩
  iapply (step_remerge d 0 true _ _ (halves _ 0 512 rfl _ _ _ _)) $$ Hw; iintro Hw
  iapply (step_slot m ρ K d 3 (Memref.isWhole_whole _)) $$ HR C3 HO A3; iintro ⟨HO, Z3, S4⟩
  iapply (step_slot m ρ K d 4 (Memref.isWhole_whole _)) $$ HR C4 HO A4; iintro ⟨HO, Z4, S5⟩
  iapply (step_merge m ρ d (Fin.succ 3) (Fin.succ 4) 1024 true fullShare _ rfl rfl) $$ S4 S5 Hw; iintro ⟨S4, S5, Hw⟩
  iapply (step_slot m ρ K d 5 (Memref.isWhole_whole _)) $$ HR C5 HO A5; iintro ⟨HO, Z5, S6⟩
  iapply (step_slot m ρ K d 6 (Memref.isWhole_whole _)) $$ HR C6 HO A6; iintro ⟨HO, Z6, S7⟩
  iapply (step_merge m ρ d (Fin.succ 5) (Fin.succ 6) 1536 false fullShare _ rfl rfl) $$ S6 S7 Hw; iintro ⟨S6, S7, Hw⟩
  iapply (step_remerge d 1024 false _ _ (halves _ 1024 1536 rfl _ _ _ _)) $$ Hw; iintro Hw
  iapply (step_result d _ _ (both _ _ _ _ _ _ _ _ _) o0) $$ Hw Hout; iintro ⟨Hw, Hout⟩
  iapply (all_sent m ρ K d (Memref.isWhole_whole _)) $$ HR HO CS AS S0; iintro ⟨HO, ZS, S0⟩
  imod (Rounds.cell_close EX (sched m ρ) (Set.mem_univ (K (d, .inl ()))) (fun h => h) (R := 0 + 1) (duties_later m ρ (barCell d))) $$ [AB] with ZB
  · isplitr; · iapply (records_inv m ρ K d (.inl ())); iexact HR
    iexact AB
  rw [wp_ret]; imodintro
  iapply Hk
  unfold bodyPost Φ₁ Dat.owesAt Pipeline.owesWithin due gatherPts
  rw [show (dats m ρ 0 d).owed t0_0.succ = 0 from rfl, slots_whole, bigSep_fin7 fun t => slotPts d t.succ fullShare (gathered m ρ d),
    bigSep_fin7 fun t => semVal (recvCell d t) 0]
  icases HO with ⟨%W', HO⟩
  isplitl [S0 S1 S2 S3 S4 S5 S6 S7 Hw ZS Z0 Z1 Z2 Z3 Z4 Z5 Z6 ZB]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6] <;> iassumption
    isplitl [Hw]; · iexists _; iexact Hw
    isplitl [ZS]; · iexact ZS
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5] <;> iassumption
    iexact ZB
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Own
-- ==== Proof.Launch.lean ====
/- The kernel on all devices: the exchange is set up, every device runs its body, and all end with
   their results, the inputs unchanged and every semaphore at zero. -/
module

public import proofs.«01_k».proof.Proof.Sound
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's obligation -/

set_option maxRecDepth 4000 in
/-- The body as the pipeline asks for it. -/
theorem body_obligation (d : Dev nD) : BodyObligation (dats (F := F) m ρ 0 d) (defs₀ (F := F)) 𝒱₀ () Set.univ := fun t => by
  rw [fin_N0 t]
  rw [bigSep_W0, bigSep_W0]
  simp only [owns_buffer]
  show iprop(Φ₀ m ρ d ∗ (dats m ρ 0 d).owesAt () t0_0.castSucc
      ∗ (∃ e, staged d cc0_stg0_0 ((dats m ρ 0 d).before (0 : Fin 2) t0_0 e))
      ∗ (∃ e, staged d cc0_stg1_0 ((dats m ρ 0 d).before (1 : Fin 2) t0_0 e)))
    ⊢ wp frame (wpE (defs₀ (F := F)) 𝒱₀ (d : Thread nD τ) none) Set.univ
      (cc0_body xM (Memref.isWhole_whole _) oM (Memref.isWhole_whole _) gM (Memref.isWhole_whole _)
        wM (Memref.isWhole_whole _) sendS recvS) (fun _ => bodyPost m ρ d)
  unfold Φ₀ start
  iintro ⟨⟨⟨⟨%K, Hg⟩, Hc, Hv, Hl⟩, Hb, Hw⟩, Ho, Hx, Hout⟩
  iapply (sound_body m ρ K d fun _ => bodyPost m ρ d)
  unfold bodyPre
  isplitr []
  · isplitl [Hg Hc Hv Hl Hb Hw]
    · isplitl [Hg]; · iexact Hg
      isplitl [Hc]; · iexact Hc
      isplitl [Hv]; · iexact Hv
      isplitl [Hl]; · iexact Hl
      isplitl [Hb] <;> iassumption
    isplitl [Ho]; · iexact Ho
    isplitl [Hx] <;> iassumption
  · iintro H; iexact H

theorem ownSemFacts : Pipeline.OwnSemFacts cfg0.spec osem := by decide

theorem share_eq (d : Dev nD) (w : Fin cfg0.W) : (dats m ρ 0 d).share w = fullShare := by unfold Dat.share; split <;> rfl

/-! ## Cells and tokens at launch -/

theorem cell_injective {d d' : Dev nD} {k k' : Unit ⊕ (Fin 7 ⊕ Fin 7)} (h : cell d k = cell d' k') : d = d' ∧ k = k' :=
  ⟨congrArg (fun g : GSem nD τ sig => g.1.1) h, csem_injective (congrArg Prod.snd h)⟩

/-- The cells of the exchange on all devices. -/
def keys : Key ↪ GSem nD τ sig :=
  ⟨fun ck => cell ck.1 ck.2, fun a b h => Prod.ext (cell_injective h).1 (cell_injective h).2⟩

def allCells : Finset (GSem nD τ sig) := Finset.univ.map keys

/-- A device's duty: one at the barrier for each distance, one at every semaphore of its own. -/
abbrev tokOf (x : Dev nD × (Fin 7 ⊕ (Fin 7 ⊕ Fin 7))) : GSem nD τ sig × ℕ × Fin 7 :=
  match x.2 with
  | .inl t => (cell x.1 (.inl ()), 0, t)
  | .inr k => (cell x.1 (.inr k), 0, 0)

theorem tokOf_injective : Function.Injective tokOf := by
  rintro ⟨d, j⟩ ⟨d', j'⟩ h
  rcases j with t | k <;> rcases j' with t' | k'
  · have h1 := cell_injective (congrArg Prod.fst h)
    have h2 : t = t' := congrArg (fun x : GSem nD τ sig × ℕ × Fin 7 => x.2.2) h
    exact Prod.ext h1.1 (congrArg Sum.inl h2)
  · exact absurd (cell_injective (congrArg Prod.fst h)).2 (by simp)
  · exact absurd (cell_injective (congrArg Prod.fst h)).2 (by simp)
  · have h1 : d = d' ∧ _ := cell_injective (congrArg Prod.fst h)
    obtain ⟨rfl, h2⟩ := h1; obtain rfl := Sum.inr.inj h2; rfl

def allToks : Finset (GSem nD τ sig × ℕ × Fin 7) := Finset.univ.map ⟨tokOf, tokOf_injective⟩

/-- The ghost state at launch. -/
def u₀ : UU :=
  (initOf (Pipeline.cells cfgs cellOf_inj) (Pipeline.launchToks cfgs cellOf_inj), initOf allCells allToks)

/-- The tokens of a device's own cells. -/
def toks (d : Dev nD) : sProp 𝕄 :=
  iprop((bigSep Finset.univ fun t : Fin 7 => dutyTok EX (barCell d) 0 t)
    ∗ (bigSep Finset.univ fun t : Fin 7 => dutyTok EX (sendCell d t) 0 0)
    ∗ bigSep Finset.univ fun t : Fin 7 => dutyTok EX (recvCell d t) 0 0)

/-- What a device is dealt at launch. -/
def G (d : Dev nD) : sProp 𝕄 :=
  iprop((bigSep Finset.univ fun k => roundState EX (sched m ρ) (cell d k) 0)
    ∗ (bigSep Finset.univ fun k => iprop(atPos EX (cell d k) 0 ∅ 0 ∗ reached EX (cell d k) 0)) ∗ toks d)

/-- What the setting-up makes of it. -/
def G' (d : Dev nD) : sProp 𝕄 := iprop(∃ K, ghost m ρ K d)

theorem fund : BI.own (EX (initOf allCells allToks)) ⊢ (|==> bigSep Finset.univ (G m ρ) : sProp 𝕄) := by
  have hX (Φ : GSem nD τ sig → sProp 𝕄) :
      bigSep allCells Φ = bigSep Finset.univ fun d : Dev nD => bigSep Finset.univ fun k => Φ (cell d k) := by
    unfold allCells; rw [bigSep_map, bigSep_univ_prod]; rfl
  have hT : bigSep allToks (fun x => (dutyTok EX x.1 x.2.1 x.2.2 : sProp 𝕄)) = bigSep Finset.univ fun d : Dev nD => toks d := by
    unfold allToks; rw [bigSep_map, bigSep_univ_prod]
    exact bigSep_congr fun d _ => by unfold toks; rw [bigSep_univ_sum, bigSep_univ_sum]; rfl
  iintro HX
  imod (Rounds.fund EX (sched m ρ) allCells allToks) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Something for each semaphore is something for the barrier's, for the sends' and for the arrivals'. -/
theorem bigSep_keys (Φ : Unit ⊕ (Fin 7 ⊕ Fin 7) → sProp 𝕄) :
    bigSep Finset.univ Φ = iprop(Φ (.inl ()) ∗ (bigSep Finset.univ fun t : Fin 7 => Φ (.inr (.inl t)))
      ∗ bigSep Finset.univ fun t : Fin 7 => Φ (.inr (.inr t))) := by
  rw [bigSep_univ_sum, bigSep_univ_sum]
  congr 1
  exact bigSep_singleton

omit [FloatOps F] in
theorem ownSems_eq (d : Dev nD) : (Pipeline.ownSems0 (Ix := Unit) (Name := ℕ) (U := UU) (Lvl := ℕ) (Val := Elt F) (τ := τ) osem d : sProp 𝕄)
    = iprop((bigSep Finset.univ fun t : Fin 7 => semVal (sendCell d t) 0) ∗ bigSep Finset.univ fun t : Fin 7 => semVal (recvCell d t) 0) := by
  unfold Pipeline.ownSems0
  exact bigSep_univ_sum _

omit [FloatOps F] in
theorem unscopedSems_eq (d : Dev nD) : (unscopedSems0 d : sProp 𝕄) = semVal (barCell d) 0 := by
  unfold unscopedSems0; rw [bigSep_eq_bigSepL_of_eq [SemLoc.reg barS] (by decide) (by decide)]; rfl

omit [FloatOps F] in
theorem sems_keys (d : Dev nD) :
    iprop(Pipeline.ownSems0 (Ix := Unit) (Name := ℕ) (U := UU) (Lvl := ℕ) (Val := Elt F) (τ := τ) osem d ∗ unscopedSems0 d)
      ⊢ (bigSep Finset.univ fun k => semVal (cell d k) 0 : sProp 𝕄) := by
  rw [ownSems_eq, unscopedSems_eq, bigSep_keys]
  iintro ⟨⟨HS, HV⟩, HB⟩
  isplitl [HB]; · iexact HB
  isplitl [HS] <;> iassumption

/-- A device's cells under invariants. -/
theorem core_alloc (d : Dev nD) :
    iprop(Pipeline.ownSems0 (Ix := Unit) (Name := ℕ) (U := UU) (Lvl := ℕ) (Val := Elt F) (τ := τ) osem d ∗ unscopedSems0 d ∗ G m ρ d)
      ⊢ |={Set.univ}=> iprop((bigSep Finset.univ fun k => iprop(∃ κ : ℕ, cellInv EX (sched m ρ) κ (cell d k)))
          ∗ (bigSep Finset.univ fun k => iprop(atPos EX (cell d k) 0 ∅ 0 ∗ reached EX (cell d k) 0)) ∗ toks d) := by
  unfold G
  iintro ⟨Hos, Hus, Hst, Hat, Htok⟩
  ihave Hv := (sems_keys (F := F) d) $$ [Hos Hus]
  · isplitl [Hos] <;> iassumption
  imod (show iprop((bigSep Finset.univ fun k => semVal (cell d k) 0) ∗ bigSep Finset.univ fun k => roundState EX (sched m ρ) (cell d k) 0)
      ⊢ (|={Set.univ}=> bigSep Finset.univ fun k => iprop(∃ κ : ℕ, cellInv EX (sched m ρ) κ (cell d k)) : sProp 𝕄) from by
        rw [← bigSep_sep']
        exact (bigSep_mono fun k _ => (Rounds.body_intro EX (sched m ρ) (cell d k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the devices that use them -/

omit [FloatOps F] in
/-- What belongs to each distance of each device, seen from the partners. -/
theorem dealt (Φ : Dev nD → Fin 7 → sProp 𝕄) :
    (bigSep Finset.univ fun d => bigSep Finset.univ fun t => Φ d t)
      = bigSep Finset.univ fun d => bigSep Finset.univ fun t => Φ (peer d t) t := by
  rw [bigSep_univ_comm, bigSep_congr (s := Finset.univ) fun (t : Fin 7) _ => bigSep_univ_equiv (swap t) fun d => Φ d t]
  exact bigSep_univ_comm fun t d => Φ (peer d t) t

/-- The tokens device `d` uses. -/
def payToks (d : Dev nD) : sProp 𝕄 :=
  iprop((bigSep Finset.univ fun t : Fin 7 => dutyTok EX (barCell (peer d t)) 0 t)
    ∗ bigSep Finset.univ fun t : Fin 7 => iprop(dutyTok EX (recvCell (peer d t) t) 0 0 ∗ dutyTok EX (sendCell d t) 0 0))

omit [FloatOps F] in
theorem toks_dealt : (bigSep Finset.univ fun d : Dev nD => (toks d : sProp 𝕄)) ⊢ bigSep Finset.univ fun d : Dev nD => payToks d := by
  unfold toks payToks
  simp only [bigSep_sep']
  rw [dealt fun d t => (dutyTok EX (barCell d) 0 t : sProp 𝕄), dealt fun d t => (dutyTok EX (recvCell d t) 0 0 : sProp 𝕄)]
  iintro ⟨H1, H2, H3⟩
  isplitl [H1]; · iexact H1
  isplitl [H3] <;> iassumption

/-- What stays with device `d` alone. -/
def linear (d : Dev nD) : sProp 𝕄 :=
  iprop((bigSep Finset.univ fun k => atPos EX (cell d k) 0 ∅ 0) ∗ payToks d)

theorem ghost_intro (K : Key → ℕ) (d : Dev nD) : iprop(records m ρ K ∗ linear d) ⊢ G' m ρ d := by
  unfold linear payToks G' ghost
  rw [bigSep_keys]
  iintro ⟨HR, ⟨HB, HS, HV⟩, HT, HC⟩
  iexists K
  isplitl [HR]; · iexact HR
  isplitl [HB]; · iexact HB
  isplitl [HS]; · iexact HS
  isplitl [HV]; · iexact HV
  isplitl [HT] <;> iassumption

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup_all :
    (bigSep Finset.univ fun d : Dev nD => iprop((bigSep Finset.univ fun k => iprop(∃ κ : ℕ, cellInv EX (sched m ρ) κ (cell d k)))
          ∗ (bigSep Finset.univ fun k => iprop(atPos EX (cell d k) 0 ∅ 0 ∗ reached EX (cell d k) 0)) ∗ toks d) : sProp 𝕄)
      ⊢ bigSep Finset.univ (G' m ρ) := by
  rw [bigSep_sep', bigSep_sep', ← bigSep_univ_prod (fun ck : Key => iprop(∃ κ : ℕ, cellInv EX (sched m ρ) κ (cell ck.1 ck.2))),
    bigSep_congr (s := Finset.univ) (fun (d : Dev nD) _ => bigSep_sep' Finset.univ (fun k => (atPos EX (cell d k) 0 ∅ 0 : sProp 𝕄)) (fun k => reached EX (cell d k) 0)),
    bigSep_sep', ← bigSep_univ_prod (fun ck : Key => (reached EX (cell ck.1 ck.2) 0 : sProp 𝕄))]
  iintro ⟨HI, ⟨Hat, #HR⟩, Htok⟩
  ihave HK := (BI.bigSep_exists_pi Finset.univ (fun (ck : Key) (κ : ℕ) => (cellInv EX (sched m ρ) κ (cell ck.1 ck.2) : sProp 𝕄))) $$ HI
  icases HK with ⟨%K, #HI⟩
  ihave Htk := (toks_dealt (F := F)) $$ Htok
  iapply (bigSep_with (R := records m ρ K) fun d _ => ghost_intro m ρ K d)
  isplitr
  · unfold records; isplitl; · iexact HI
    iexact HR
  · unfold linear
    rw [bigSep_sep']
    isplitl [Hat]; · iexact Hat
    iexact Htk

theorem glob : (bigSep Finset.univ fun d => iprop(Pipeline.ownSems0 (Ix := Unit) (Name := ℕ) (U := UU) (Lvl := ℕ) (Val := Elt F) (τ := τ) osem d ∗ unscopedSems0 d ∗ G m ρ d) : sProp 𝕄)
    ⊢ |={Set.univ}=> bigSep Finset.univ (G' m ρ) :=
  ((bigSep_mono fun d _ => core_alloc m ρ d).trans (bigSep_fupd _ _)).trans (BI.fupd_mono (regroup_all m ρ))

/-! ## The credits at launch -/

/-- What all devices together owe one cell through the partners at distance `t + 1`. -/
theorem sum_tally (t : Fin 7) (k k' : Unit ⊕ (Fin 7 ⊕ Fin 7)) (c : Dev nD) (n : ℕ) :
    ∑ d : Dev nD, (tallyAt (cell (peer d t) k) () n : CellTallies nD τ sig Unit) (cell c k') () = if k' = k then n else 0 := by
  rw [Finset.sum_eq_single (peer c t)]
  · rw [peer_peer, tallyAt_apply]
    by_cases h : k' = k
    · rw [h, if_pos ⟨rfl, rfl⟩, if_pos rfl]
    · rw [if_neg h, if_neg fun h' => h (cell_injective h'.1).2]
  · intro d _ hd
    rw [tallyAt_apply, if_neg fun h' => hd ?_]
    rw [(cell_injective h'.1).1, peer_peer]
  · exact fun h => absurd (Finset.mem_univ _) h

theorem sum_owed (c : Dev nD) (k' : Unit ⊕ (Fin 7 ⊕ Fin 7)) :
    ∑ d : Dev nD, O₀ d (cell c k') ()
      = (∑ t : Fin 7, if k' = .inr (.inr t) then N else 0) + ∑ t : Fin 7, if k' = .inl () then 1 else 0 := by
  have h (d : Dev nD) : O₀ d (cell c k') ()
      = (∑ t : Fin 7, recvDebt d t (cell c k') ()) + ∑ t : Fin 7, barDebt d t (cell c k') () := by
    unfold O₀
    rw [Pi.add_apply, Finsupp.add_apply, owedFrom_apply, owedFrom_apply, Finset.filter_true_of_mem fun _ _ => Nat.zero_le _]
  rw [Finset.sum_congr rfl fun d _ => h d, Finset.sum_add_distrib, Finset.sum_comm, Finset.sum_comm (f := fun d t => barDebt d t (cell c k') ())]
  exact congrArg₂ (· + ·) (Finset.sum_congr rfl fun t _ => sum_tally t (.inr (.inr t)) k' c N)
    (Finset.sum_congr rfl fun t _ => sum_tally t (.inl ()) k' c 1)

theorem launch_cell (c : Dev nD) (k : Unit ⊕ (Fin 7 ⊕ Fin 7)) (n : ℕ)
    (h : ((∑ t : Fin 7, if k = .inr (.inr t) then N else 0) + ∑ t : Fin 7, if k = .inl () then 1 else 0) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, sum_owed, h]

theorem launch_bar (c : Dev nD) :
    tallyOn (barCell c) (launchCredit (Pipeline.owing O₀) 0 (barCell c)) = (tallyAt (barCell c) () 7 : CellTallies nD τ sig Unit) :=
  launch_cell c (.inl ()) 7 (by simp)

theorem launch_recv (c : Dev nD) (t : Fin 7) :
    tallyOn (recvCell c t) (launchCredit (Pipeline.owing O₀) 0 (recvCell c t)) = (tallyAt (recvCell c t) () N : CellTallies nD τ sig Unit) :=
  launch_cell c (.inr (.inr t)) N (by
    rw [Finset.sum_eq_single t (fun u _ hu => if_neg fun h => hu (Sum.inr.inj (Sum.inr.inj h)).symm) fun h => absurd (Finset.mem_univ _) h]
    simp)

omit [FloatOps F] in
theorem creds (c : Dev nD) :
    (Pipeline.launchCred O₀ c : sProp 𝕄)
      ⊢ iprop(cred (tallyAt (barCell c) () 7) ∗ bigSep Finset.univ fun t : Fin 7 => cred (tallyAt (recvCell c t) () N)) := by
  unfold Pipeline.launchCred
  refine (bigSep_subset (Finset.subset_univ (Finset.univ.map ⟨csem, csem_injective⟩))).trans ?_
  rw [bigSep_map]
  refine (Entails.of_eq (bigSep_keys _)).trans ?_
  iintro ⟨HB, -, HV⟩
  isplitl [HB]
  · rw [← launch_bar]; iexact HB
  · rw [bigSep_congr (s := Finset.univ) fun (t : Fin 7) _ => congrArg cred (launch_recv c t).symm]; iexact HV

/-! ## The conditions of the launch theorem -/

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m ρ d)
      ⊢ |={Set.univ}=> iprop(start m ρ d ∗ emp) := by
  iintro ⟨-, Hlev, Hcr, -, HG⟩
  ihave Hc := (creds (F := F) d) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (d : Dev nD) :
    iprop(start m ρ d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m ρ d from rfl, scopedRest0_eq]
  unfold Φ₀ gatherPts workPts
  iintro ⟨Hs, -, Hg, Hw⟩
  isplitl [Hs]; · iexact Hs
  isplitl [Hg] <;> iassumption

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ m ρ d from rfl, scopedRest0_eq, ownSems_eq, unscopedSems_eq]
  unfold Φ₁ gatherPts workPts
  iintro ⟨Hg, Hw, HS, HV, HB⟩
  isplitl [HB]; · iexact HB
  isplitl [HS HV]
  · isplitl [HS] <;> iassumption
  isplitl [Hg]
  · iexists _; iexact Hg
  iexact Hw

/-- A semaphore that is none of the exchange's. -/
theorem role_none {s : SemLoc sig} (h : ∀ k, csem k ≠ s) : role s = none := by
  unfold role Function.partialInv
  exact dif_neg fun ⟨k, hk⟩ => h k hk

theorem waits (d : Dev nD) : (levAts L lv : sProp 𝕄) ⊢ Pipeline.cellsWaits cfgs (dats m ρ) () 0 d :=
  Pipeline.cellsWaits_intro cfgs (dats m ρ) () 0 d fun w s t =>
    mayWait_stage d _ (role_none (by revert s; fin_cases w <;> decide)) _ (by
      rcases t with ⟨_ | _, ht⟩
      · exact Or.inl rfl
      · exact Or.inr rfl)

/-! ## The run -/

/-- What a device's arrays hold at the end. -/
def finalA (d : Dev nD) (w : Fin cfg0.W) : Buf (Elt F) ((cfg0.win w).arr.view.loc (d : Thread nD τ)) := (dats m ρ 0 d).arrAt w cfg0.N

/-- All arrays hold that. -/
def Ends : PUnit × MemSt nD τ sig (Elt F) → Prop := fun r =>
  ∀ d : Dev nD, ∀ w : Fin cfg0.W, r.2.mem ((cfg0.win w).arr.view.loc (d : Thread nD τ)) = finalA m ρ d w

set_option maxRecDepth 8000 in
/-- From any memory with all counters at zero, every fair run of the kernel on eight devices ends, all
    arrays hold what is stated, and all counters are at zero again. -/
theorem run_arrays : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun d => unscopedSems0 d) (Z := fun _ => iprop(emp))
    (hX := start_intro m ρ) (hin := phi0_intro m ρ) (hout := phi1_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The input array ends as it was. -/
theorem finalA_input (d : Dev nD) : finalA m ρ d (0 : Fin 2) = (s₀ m ρ).mem (win0_0.arr.view.loc (d : Thread nD τ)) :=
  (dats (F := F) m ρ 0 d).arrAt_in (0 : Fin 2) rfl _

end Cert.KernelIdeal.Own
-- ==== Proof.Ends.lean ====
/- What the run leaves behind, in terms of the two arrays of the kernel: the input as it was, the result
   the device's block. -/
module

public import proofs.«01_k».proof.Proof.Launch
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI Idealize.SL.Sem

variable {F : FTy → Type} [FloatOps F]

variable (m : (ℓ : Loc nD τ sig) → Buf (Elt F) ℓ) (ρ : Dev nD → PrngReg)

/-- The input window's only block is the whole array. -/
theorem xstg_eq (d : Dev nD) : xstg m ρ d = m ((d : Thread nD τ).loc main_arg0) := by
  funext i
  refine congrArg (m ((d : Thread nD τ).loc main_arg0)) (funext fun a => ?_)
  fin_cases a <;> exact Fin.ext (by simp [View.emb]; rfl)

/-- The result window's only block is the whole array. -/
theorem read_result (t : Fin cfg0.N) (G : (cc0_stg1_0 : Ref sig .tc).ty.Contents (Elt F)) :
    ((cfg0.win 1).blk t).view.read (Elt F) G = G := by
  obtain rfl := fin_N0 t
  funext i
  show G _ = G i
  congr 1
  funext a; fin_cases a <;> exact Fin.ext (by simp [View.emb]; rfl)

/-- The result window's only block has every entry. -/
theorem mem_result (i : S256x128.Idx) : i ∈ ((cfg0.win 1).blk t0_0).view.set := by
  show i ∈ ((View.whole main_v1).slice (win0_1.rect t0_0)).set
  rw [View.set_slice_whole, Rect.mem_set_unit]
  intro a
  fin_cases a
  · exact ⟨Nat.zero_le _, (i 0).isLt⟩
  · exact ⟨Nat.zero_le _, (i 1).isLt⟩

/-- The result array ends as what the body computed. -/
theorem finalA_result (d : Dev nD) : finalA m ρ d (1 : Fin 2) = outAt m ρ d :=
  (dats (F := F) m ρ 0 d).arrAt_eq_of_cover (1 : Fin 2) (outAt m ρ d)
    (fun t _ => by
      rw [read_result]
      obtain rfl := fin_N0 t
      rfl)
    fun i => ⟨t0_0, flush0_1 _, mem_result i⟩

/-- From any memory with all counters at zero, every fair run ends with each device's result, its input
    unchanged and all counters at zero. -/
theorem run_main : θ_run defs (onTc (τ := τ) (main (F := F))) (s₀ m ρ) (fun r =>
    (∀ d : Dev nD, r.2.mem (d.tc.loc main_v1) = outAt m ρ d ∧ r.2.mem (d.tc.loc main_arg0) = m (d.tc.loc main_arg0))
      ∧ r.2.sem = fun _ => 0) :=
  (θ_run defs _ _).mono (fun r h => ⟨fun d => ⟨(h.1 d (1 : Fin 2)).trans (finalA_result m ρ d),
    (h.1 d (0 : Fin 2)).trans (finalA_input m ρ d)⟩, h.2⟩) (run_arrays m ρ)

/-- The same of the inputs and the counters alone. -/
theorem run_frame : θ_run defs (onTc (τ := τ) (main (F := F))) ⟨m, fun _ => 0, ρ⟩ (fun r =>
    (∀ d : Dev nD, r.2.mem (d.tc.loc main_arg0) = m (d.tc.loc main_arg0)) ∧ r.2.sem = fun _ => 0) :=
  (θ_run defs _ _).mono (fun _ h => ⟨fun d => (h.1 d).2, h.2⟩) (run_main m ρ)

end Cert.KernelIdeal.Own
-- ==== Proof.Same.lean ====
/- The kernel as printed and the kernel over the reals have the same text, so that one run serves both. -/
module

public import proofs.«01_k».proof.Proof.Ends
public import proofs.«01_k».proof.Proof.Gen.Kernel

@[expose] public section

noncomputable section

namespace Cert.Kernel.Same

open Idealize.ShloMosaic Idealize.SL.Sem

variable {F : FTy → Type} [FloatOps F]

/-- The two programs have the same body. -/
theorem body_same : Cert.Kernel.cc0_body (F := F) = Cert.KernelIdeal.cc0_body (F := F) := rfl

/-- They have the same table of bodies. -/
theorem bodies_same : Cert.Kernel.defs₀ (F := F) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) (funext fun ℓ => funext fun x => ?_)
  rw [← body_same]
  match ℓ, x with
  | 0, (t, s) => rfl
  | ⟨_ + 1, h⟩, _ => exact absurd h (Nat.not_lt.2 (Nat.le_add_left _ _))

/-- They have the same definitions. -/
theorem defs_same : Cert.Kernel.defs (F := F) = Cert.KernelIdeal.defs := by
  unfold Cert.Kernel.defs Cert.KernelIdeal.defs
  rw [bodies_same]
  rfl

/-- So the run of the one, read at the inputs and the counters, is the run of the other. -/
theorem run_frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem (c.tc.loc main_arg0) = m (c.tc.loc main_arg0)) ∧ r.2.sem = fun _ => 0) := by
  rw [defs_same]
  exact Cert.KernelIdeal.Own.run_frame (F := F) m ρ

end Cert.Kernel.Same
-- ==== Proof.Rows.lean ====
/- What the stages do at one row and lane: which entries they compare, and which flag decides. -/
module

public import proofs.«01_k».proof.Proof.Stage
public import Idealize.ShloMosaic.Lib.Pipeline.Value
public import Idealize.ShloMosaic.Lib.Pointwise.Index
public import Idealize.ShloMosaic.PureOps.Ideal

@[expose] public section

noncomputable section

namespace Cert.KernelIdeal.Own

open Idealize.ShloMosaic Cert.KernelIdeal Cert.KernelIdeal.Gen

variable {F : FTy → Type} [FloatOps F]

/-! ## Words of one bit -/

theorem ofBool_eq_one (b : Bool) : BitVec.ofBool b = 1#1 ↔ b = true := by cases b <;> decide

theorem xor_ofBool (a b : Bool) : IntOp.xori (BitVec.ofBool a) (BitVec.ofBool b) = BitVec.ofBool (a ^^ b) := by
  cases a <;> cases b <;> rfl

/-- A test of bits of a small number, done on its word. -/
theorem and_eq_zero {a b : ℕ} (ha : a < 2 ^ 32) :
    (IntOp.andi (BitVec.ofNat 32 a) (BitVec.ofNat 32 b) == 0#32) = decide (a &&& b % 2 ^ 32 = 0) := by
  rw [beq_eq_decide]
  refine decide_eq_decide.mpr ?_
  unfold IntOp.andi
  rw [← BitVec.toNat_inj, BitVec.toNat_and, BitVec.toNat_ofNat, BitVec.toNat_ofNat, Nat.mod_eq_of_lt ha]
  rfl

/-! ## Flags -/

theorem iota_flag {L : ℕ} (i : Fin L) : iota .tc (flags L) 32 [0] (iota_flags L) (ix2 i (0 : Fin 1)) = BitVec.ofNat 32 i.val :=
  iota_single_apply ..

theorem iota_group {b : ℕ} (q : Fin b) :
    iota .tc (groupFlags b) 32 [0] (iota_groups b) (ix3 q (0 : Fin 1) (0 : Fin 1)) = BitVec.ofNat 32 q.val :=
  iota_single_apply ..

/-- The flag of a row at each of its lanes. -/
theorem flag_apply {L : ℕ} (mask : IVec (flags L) 1) (i : Fin L) (c : Fin 128) :
    broadcastTo (rows L) (shapeCast (flags L) mask rfl) (bcast_rows L) (ix2 i c) = mask (ix2 i (0 : Fin 1)) := by
  rw [shapeCast_self]
  refine broadcastTo_apply _ _ _ _ fun a => ?_
  fin_cases a
  · show i.val = if L = 1 then 0 else i.val
    split
    · have := i.isLt; omega
    · rfl
  · rfl

/-- The flag of a group at each of its rows and lanes. -/
theorem groupFlag_apply {b j : ℕ} (mask : IVec (groupFlags b) 1) (q : Fin b) (t : Fin j) (c : Fin 128) :
    broadcastTo (runs b j) (shapeCast (groupFlags b) mask rfl) (bcast_runs b j) (ix3 q t c) = mask (ix3 q (0 : Fin 1) (0 : Fin 1)) := by
  rw [shapeCast_self]
  refine broadcastTo_apply _ _ _ _ fun a => ?_
  fin_cases a
  · show q.val = if b = 1 then 0 else q.val
    split
    · have := q.isLt; omega
    · rfl
  · rfl
  · rfl

theorem bcast_flag {s : Shape} (x : BitVec 1) (i : s.Idx) : broadcastTo s (broadcast s x) (bcast_self s) i = x := rfl

/-- Whether bit `j` of the row number is set. -/
theorem bitSet_apply {L j : ℕ} (hL : L ≤ 2 ^ 32) (hj : j < 2 ^ 32) (i : Fin L) :
    bitSet L j (ix2 i (0 : Fin 1)) = BitVec.ofBool (!decide (i.val &&& j = 0)) := by
  show BitVec.ofBool (IntOp.andi (iota .tc (flags L) 32 [0] (iota_flags L) (ix2 i (0 : Fin 1))) (BitVec.ofNat 32 j) != 0#32) = _
  rw [iota_flag, bne, and_eq_zero (i.isLt.trans_le hL), Nat.mod_eq_of_lt hj]

/-- The flag of a sorting stage, `asc` the direction of the whole. -/
theorem sortFlags_apply {L k j : ℕ} (hL : L ≤ 2 ^ 32) (hk : k < 2 ^ 32) (hj : j < 2 ^ 32) (asc : Bool) (i : Fin L) :
    sortFlags L k j (BitVec.ofBool asc) (ix2 i (0 : Fin 1))
      = BitVec.ofBool ((decide (i.val &&& k = 0) ^^ asc ^^ true) ^^ !decide (i.val &&& j = 0)) := by
  show IntOp.xori (IntOp.xori (IntOp.xori (BitVec.ofBool (IntOp.andi (iota .tc (flags L) 32 [0] (iota_flags L) (ix2 i (0 : Fin 1)))
    (BitVec.ofNat 32 k) == 0#32)) (BitVec.ofBool asc)) (BitVec.ofBool true)) (bitSet L j (ix2 i (0 : Fin 1))) = _
  rw [iota_flag, and_eq_zero (i.isLt.trans_le hL), Nat.mod_eq_of_lt hk, bitSet_apply hL hj, xor_ofBool, xor_ofBool, xor_ofBool]

/-- The flag of a merging stage. -/
theorem mergeFlags_apply {L j : ℕ} (hL : L ≤ 2 ^ 32) (hj : j < 2 ^ 32) (asc : Bool) (i : Fin L) :
    mergeFlags L j (BitVec.ofBool asc) (ix2 i (0 : Fin 1)) = BitVec.ofBool ((!decide (i.val &&& j = 0)) ^^ asc) := by
  show IntOp.xori (bitSet L j (ix2 i (0 : Fin 1))) (BitVec.ofBool asc) = _
  rw [bitSet_apply hL hj, xor_ofBool]

/-- The flag of a group of a sorting stage. -/
theorem groupAsc_apply {b j k : ℕ} (hb : b * (2 * j) ≤ 2 ^ 32) (hj : 0 < j) (hk : k < 2 ^ 32) (asc : Bool) (q : Fin b) :
    groupAsc b j k (BitVec.ofBool asc) (ix3 q (0 : Fin 1) (0 : Fin 1))
      = BitVec.ofBool (decide (q.val * (2 * j) &&& k = 0) ^^ asc ^^ true) := by
  have hq : q.val * (2 * j) < 2 ^ 32 := (Nat.mul_lt_mul_of_pos_right q.isLt (by omega)).trans_le hb
  have e : IntOp.muli (IntOp.muli (BitVec.ofNat 32 q.val) 2#32) (BitVec.ofNat 32 j) = BitVec.ofNat 32 (q.val * (2 * j)) := by
    unfold IntOp.muli
    rw [← Nat.mul_assoc, BitVec.ofNat_mul, BitVec.ofNat_mul]
  show IntOp.xori (IntOp.xori (BitVec.ofBool (IntOp.andi (IntOp.muli (IntOp.muli
    (iota .tc (groupFlags b) 32 [0] (iota_groups b) (ix3 q (0 : Fin 1) (0 : Fin 1))) 2#32) (BitVec.ofNat 32 j))
    (BitVec.ofNat 32 k) == 0#32)) (BitVec.ofBool asc)) (BitVec.ofBool true) = _
  rw [iota_group, e, and_eq_zero hq, Nat.mod_eq_of_lt hk, xor_ofBool, xor_ofBool]

/-! ## Rows moved -/

/-- The rotated array at a row whose partner is `j` rows above or below. -/
theorem rotated_apply {L j r : ℕ} (h : r + j = L) (hL : L ≤ 2 ^ 32) (hj : j < 2 ^ 32) (X : FVec F (rows L) .bf16) (i k : Fin L) (c : Fin 128)
    (hup : i.val &&& j = 0 → k.val = i.val + j) (hdn : i.val &&& j ≠ 0 → i.val = k.val + j) :
    rotated L j r h X (ix2 i c) = X (ix2 k c) := by
  have hk := k.isLt
  unfold rotated
  show Scalar.select (broadcastTo (rows L) (shapeCast (flags L) (bitSet L j) rfl) (bcast_rows L) (ix2 i c)) _ _ = _
  rw [flag_apply, bitSet_apply hL hj]
  unfold Scalar.select
  by_cases hi : i.val &&& j = 0
  · have hki := hup hi
    rw [if_neg (by rw [hi]; decide)]
    refine (concatenate_pair_apply_left (t := rows L) (s₁ := rows r) (s₂ := rows j) 0 _ _ _ (ix2 i c) rfl (ix2 (⟨i.val, by omega⟩ : Fin r) c) fun a => ?_).trans
      (extractStridedSlice_apply _ _ _ _ (ix2 k c) fun a => ?_)
    · fin_cases a <;> rfl
    · fin_cases a
      · show k.val = j + i.val
        omega
      · exact (Nat.zero_add _).symm
  · have hki := hdn hi
    rw [if_pos (by rw [decide_eq_false hi]; rfl)]
    refine (concatenate_pair_apply_right (t := rows L) (s₁ := rows j) (s₂ := rows r) 0 _ _ _ (ix2 i c) rfl rfl (ix2 (⟨k.val, by have := i.isLt; omega⟩ : Fin r) c)
      (fun a ha => ?_) ?_).trans (extractStridedSlice_apply _ _ _ _ (ix2 k c) fun a => ?_)
    · fin_cases a
      · exact absurd rfl ha
      · rfl
    · show k.val + j = i.val
      omega
    · fin_cases a
      · exact (Nat.zero_add _).symm
      · exact (Nat.zero_add _).symm

/-- Run `o` of group `q`. -/
theorem run_apply {o L b j : ℕ} (ho : o + 1 ≤ 2) (h : b * (2 * j) = L) (X : FVec F (rows L) .bf16) (q : Fin b) (t : Fin j) (c : Fin 128)
    (i : Fin L) (hi : i.val = q.val * (2 * j) + o * j + t.val) : run o ho L b j h X (ix3 q t c) = X (ix2 i c) := by
  unfold run
  refine (shapeCast_apply _ _ _ (ix4 q (0 : Fin 1) t c) ?_).trans
    ((extractStridedSlice_apply _ _ _ _ (ix4 q (⟨o, by omega⟩ : Fin 2) t c) fun a => ?_).trans (shapeCast_apply _ _ _ (ix2 i c) ?_))
  · rw [Shape.rowMajor_val_four, Shape.rowMajor_val_three]
    simp
  · fin_cases a
    · exact (Nat.zero_add _).symm
    · rfl
    · exact (Nat.zero_add _).symm
    · exact (Nat.zero_add _).symm
  · rw [Shape.rowMajor_val_four, Shape.rowMajor_val_two]
    show i.val * 128 + c.val = (((q.val * 2 + o) * j) + t.val) * 128 + c.val
    rw [hi]; ring

/-- The lower run of a group, put back. -/
theorem regroup_low {L b j : ℕ} (h : b * (2 * j) = L) (lo hi : FVec F (runs b j) .bf16) (q : Fin b) (t : Fin j) (c : Fin 128)
    (i : Fin L) (hi' : i.val = q.val * (2 * j) + t.val) : regroup L b j h lo hi (ix2 i c) = lo (ix3 q t c) := by
  unfold regroup
  refine (shapeCast_apply _ _ _ (ix4 q (0 : Fin 2) t c) ?_).trans
    ((concatenate_pair_apply_left (t := pairs b j) (s₁ := single b j) (s₂ := single b j) 1 _ _ _ _ rfl (ix4 q (0 : Fin 1) t c) fun a => ?_).trans (shapeCast_apply _ _ _ (ix3 q t c) ?_))
  · rw [Shape.rowMajor_val_four, Shape.rowMajor_val_two]
    show (((q.val * 2 + 0) * j) + t.val) * 128 + c.val = i.val * 128 + c.val
    rw [hi']; ring
  · fin_cases a <;> rfl
  · rw [Shape.rowMajor_val_four, Shape.rowMajor_val_three]
    simp

/-- The upper run of a group, put back. -/
theorem regroup_high {L b j : ℕ} (h : b * (2 * j) = L) (lo hi : FVec F (runs b j) .bf16) (q : Fin b) (t : Fin j) (c : Fin 128)
    (i : Fin L) (hi' : i.val = q.val * (2 * j) + j + t.val) : regroup L b j h lo hi (ix2 i c) = hi (ix3 q t c) := by
  unfold regroup
  refine (shapeCast_apply _ _ _ (ix4 q (1 : Fin 2) t c) ?_).trans
    ((concatenate_pair_apply_right (t := pairs b j) (s₁ := single b j) (s₂ := single b j) 1 _ _ _ _ rfl rfl (ix4 q (0 : Fin 1) t c) (fun a ha => ?_) ?_).trans
      (shapeCast_apply _ _ _ (ix3 q t c) ?_))
  · rw [Shape.rowMajor_val_four, Shape.rowMajor_val_two]
    show (((q.val * 2 + 1) * j) + t.val) * 128 + c.val = i.val * 128 + c.val
    rw [hi']; ring
  · fin_cases a
    · rfl
    · exact absurd rfl ha
    · rfl
    · rfl
  · rfl
  · rw [Shape.rowMajor_val_four, Shape.rowMajor_val_three]
    simp

/-- A half of the rows. -/
theorem half_apply {H L : ℕ} (h : H + H = L) (low : BitVec 1) (X : FVec Ideal (rows L) .bf16) (t : Fin H) (a b : Fin L) (c : Fin 128)
    (ha : a.val = t.val) (hb : b.val = H + t.val) :
    half H L h low X (ix2 t c) = if low = 1 then min (X (ix2 a c)) (X (ix2 b c)) else max (X (ix2 a c)) (X (ix2 b c)) := by
  have e0 : extractStridedSlice (rows H) ![0, 0] X (slices_rows (by omega)) (ix2 t c) = X (ix2 a c) :=
    extractStridedSlice_apply _ _ _ _ _ fun x => by
      fin_cases x
      · show a.val = 0 + t.val
        omega
      · exact (Nat.zero_add _).symm
  have e1 : extractStridedSlice (rows H) ![H, 0] X (slices_rows (by omega)) (ix2 t c) = X (ix2 b c) :=
    extractStridedSlice_apply _ _ _ _ _ fun x => by
      fin_cases x
      · exact hb
      · exact (Nat.zero_add _).symm
  unfold half Scalar.select
  split
  · show min (extractStridedSlice (rows H) ![0, 0] X _ (ix2 t c)) (extractStridedSlice (rows H) ![H, 0] X _ (ix2 t c)) = _
    rw [e0, e1]
  · show max (extractStridedSlice (rows H) ![0, 0] X _ (ix2 t c)) (extractStridedSlice (rows H) ![H, 0] X _ (ix2 t c)) = _
    rw [e0, e1]

end Cert.KernelIdeal.Own
-- ==== Proof.Columns.lean ====
/- A stage of the kernel, read down one lane, is one stage of a sorting network. -/
module

public import proofs.«01_k».proof.Proof.Rows
public import Idealize.ShloMosaic.Lib.SortNet.Sorts

@[expose] public section

noncomputable section

namespace Cert.KernelIdeal.Own

open Idealize.ShloMosaic Idealize.ShloMosaic.SortNet Cert.KernelIdeal Cert.KernelIdeal.Gen

/-- Lane `c` of an array of `2 ^ p` rows. -/
def column {p L : ℕ} (hL : L = 2 ^ p) (X : FVec Ideal (rows L) .bf16) (c : Fin 128) : Fin (2 ^ p) → EReal :=
  fun i => X (ix2 (i.cast hL.symm) c)

/-! ## Facts about positions -/

/-- A vector that holds the two outcomes of every pair of a stage is what the stage leaves. -/
theorem eq_stage {p s : ℕ} (hs : s < p) (w : Fin (2 ^ p) → Bool) (v Y : Fin (2 ^ p) → EReal)
    (h : ∀ i : Fin (2 ^ p), i.val &&& 2 ^ s = 0 →
      Y i = (if w i then max (v i) (v (partner p s i)) else min (v i) (v (partner p s i)))
        ∧ Y (partner p s i) = (if w i then min (v i) (v (partner p s i)) else max (v i) (v (partner p s i)))) :
    Y = Network.apply (stage p s w) v := by
  funext i
  by_cases hi : i.val &&& 2 ^ s = 0
  · rw [(h i hi).1, (apply_stage hs w v i hi).1]
  · have hi' := partner_and_of_set hs i hi
    have e := (h _ hi').2
    have e' := (apply_stage hs w v _ hi').2
    rw [partner_partner hs] at e e'
    rw [e, e']

/-- Where bit `s` is clear, a position is some place of the lower run of its group. -/
theorem split_clear {n s : ℕ} (h : n &&& 2 ^ s = 0) : n = n / (2 * 2 ^ s) * (2 * 2 ^ s) + n % 2 ^ s := by
  have hb : n / 2 ^ s % 2 = 0 := by
    have := (and_two_pow_eq_zero_iff_testBit n s).1 h
    rw [Nat.testBit_eq_decide_div_mod_eq] at this
    have := of_decide_eq_false this
    omega
  have h1 : n / 2 ^ s / 2 = n / (2 * 2 ^ s) := by rw [Nat.div_div_eq_div_mul, Nat.mul_comm]
  have h2 := Nat.div_add_mod n (2 ^ s)
  have h3 := Nat.div_add_mod (n / 2 ^ s) 2
  rw [hb, h1, Nat.add_zero] at h3
  rw [← h3] at h2
  calc n = 2 ^ s * (2 * (n / (2 * 2 ^ s))) + n % 2 ^ s := h2.symm
    _ = _ := by ring

/-- A stage leaves the higher bits of a pair's positions equal. -/
theorem partner_and_other {p s t : ℕ} (hs : s < p) (hst : s ≠ t) (i : Fin (2 ^ p)) :
    (partner p s i).val &&& 2 ^ t = i.val &&& 2 ^ t := by
  rw [partner_val hs, Nat.and_xor_distrib_right]
  have : 2 ^ s &&& 2 ^ t = 0 := by
    rw [and_two_pow_eq_zero_iff_testBit, Nat.testBit_two_pow]
    exact decide_eq_false hst
  rw [this, Nat.xor_zero]

/-- The group of a position decides its bits above the group's width. -/
theorem group_and {n s t : ℕ} (hst : s < t) : n / (2 * 2 ^ s) * (2 * 2 ^ s) &&& 2 ^ t = 0 ↔ n &&& 2 ^ t = 0 := by
  rw [and_two_pow_eq_zero_iff_testBit, and_two_pow_eq_zero_iff_testBit]
  have e : 2 * 2 ^ s = 2 ^ (s + 1) := by ring
  rw [e, Nat.mul_comm, Nat.testBit_two_pow_mul, Nat.testBit_div_two_pow]
  have h1 : decide (s + 1 ≤ t) = true := decide_eq_true hst
  rw [h1, Bool.true_and, Nat.sub_add_cancel (show s + 1 ≤ t from hst)]

/-! ## A stage over nearby rows -/

section near

variable {p s L j r : ℕ}

theorem near_column (hL : L = 2 ^ p) (hp : p ≤ 31) (hs : s < p) (hj : j = 2 ^ s) (h : r + j = L) (mask : IVec (flags L) 1)
    (w : Fin (2 ^ p) → Bool) (hw : ∀ i, w (partner p s i) = w i)
    (hm : ∀ i : Fin (2 ^ p), mask (ix2 (i.cast hL.symm) (0 : Fin 1)) = BitVec.ofBool (w i ^^ decide (i.val &&& j = 0)))
    (X : FVec Ideal (rows L) .bf16) (c : Fin 128) :
    column hL (near L j r h mask X) c = Network.apply (stage p s w) (column hL X c) := by
  subst hj
  have hp32 : 2 ^ p ≤ 2 ^ 32 := Nat.pow_le_pow_right (by decide) (by omega)
  have hL32 : L ≤ 2 ^ 32 := hL ▸ hp32
  have hs32 : 2 ^ s < 2 ^ 32 := Nat.pow_lt_pow_right (by decide) (by omega)
  have key : ∀ i : Fin (2 ^ p), column hL (near L (2 ^ s) r h mask X) c i
      = if (w i ^^ decide (i.val &&& 2 ^ s = 0)) = true then min (column hL X c i) (column hL X c (partner p s i))
        else max (column hL X c i) (column hL X c (partner p s i)) := by
    intro i
    have er : rotated L (2 ^ s) r h X (ix2 (i.cast hL.symm) c) = X (ix2 ((partner p s i).cast hL.symm) c) :=
      rotated_apply h hL32 hs32 X _ _ c (fun hi => partner_val_of_clear hs i hi) (fun hi => by
        have := partner_val_of_set hs i hi
        show i.val = (partner p s i).val + 2 ^ s
        omega)
    show Scalar.select (broadcastTo (rows L) (shapeCast (flags L) mask rfl) (bcast_rows L) (ix2 (i.cast hL.symm) c))
      (min (X (ix2 (i.cast hL.symm) c)) (rotated L (2 ^ s) r h X (ix2 (i.cast hL.symm) c)))
      (max (X (ix2 (i.cast hL.symm) c)) (rotated L (2 ^ s) r h X (ix2 (i.cast hL.symm) c))) = _
    rw [flag_apply, hm, er]
    cases (w i ^^ decide (i.val &&& 2 ^ s = 0)) <;> rfl
  refine eq_stage hs w _ _ fun i hi => ⟨?_, ?_⟩
  · rw [key, hi]
    cases w i <;> simp
  · have hpi : (partner p s i).val &&& 2 ^ s ≠ 0 := by
      rw [partner_and hs i hi]
      exact (Nat.two_pow_pos s).ne'
    rw [key, hw, decide_eq_false hpi, partner_partner hs, min_comm, max_comm]
    cases w i <;> simp

theorem mergeNear_column (hL : L = 2 ^ p) (hp : p ≤ 31) (hs : s < p) (hj : j = 2 ^ s) (h : r + j = L) (asc : Bool)
    (X : FVec Ideal (rows L) .bf16) (c : Fin 128) :
    column hL (mergeNear L j r h (BitVec.ofBool asc) X) c = Network.apply (stage p s fun _ => !asc) (column hL X c) := by
  refine near_column hL hp hs hj h _ _ (fun _ => rfl) (fun i => ?_) X c
  subst hj hL
  rw [mergeFlags_apply (Nat.pow_le_pow_right (by decide) (by omega)) (Nat.pow_lt_pow_right (by decide) (by omega))]
  show BitVec.ofBool ((!decide (i.val &&& 2 ^ s = 0)) ^^ asc) = _
  cases asc <;> cases decide (i.val &&& 2 ^ s = 0) <;> rfl

end near

/-- Which pairs of a sorting stage of level `l` put the greater entry first, the whole to ascend if `asc`. -/
def descends (p l : ℕ) (asc : Bool) (i : Fin (2 ^ p)) : Bool := decide (i.val &&& 2 ^ (l + 1) = 0) == !asc

theorem sortNear_column {l s k j r : ℕ} (hl : l < 8) (hs : s ≤ l) (hk : k = 2 ^ (l + 1)) (hj : j = 2 ^ s) (h : r + j = 256) (asc : Bool)
    (X : FVec Ideal (rows 256) .bf16) (c : Fin 128) :
    column (p := 8) rfl (sortNear k j r h (BitVec.ofBool asc) X) c
      = Network.apply (stage 8 s (descends 8 l asc)) (column (p := 8) rfl X c) := by
  refine near_column (p := 8) rfl (by decide) (by omega) hj h _ _ (fun i => ?_) (fun i => ?_) X c
  · unfold descends
    rw [partner_and_other (by omega) (by omega)]
  · subst hj hk
    rw [sortFlags_apply (by decide) (Nat.pow_lt_pow_right (by decide) (by omega)) (Nat.pow_lt_pow_right (by decide) (by omega))]
    show BitVec.ofBool ((decide (i.val &&& 2 ^ (l + 1) = 0) ^^ asc ^^ true) ^^ !decide (i.val &&& 2 ^ s = 0)) = _
    unfold descends
    cases asc <;> cases decide (i.val &&& 2 ^ s = 0) <;> cases decide (i.val &&& 2 ^ (l + 1) = 0) <;> rfl

/-! ## A stage over distant rows -/

section far

variable {p s L b j : ℕ}

/-- Two runs put back together, where each holds one outcome of every pair. -/
theorem regroup_column (hL : L = 2 ^ p) (hs : s < p) (hj : j = 2 ^ s) (h : b * (2 * j) = L) (w : Fin (2 ^ p) → Bool)
    (X : FVec Ideal (rows L) .bf16) (c : Fin 128) (lo hi : FVec Ideal (runs b j) .bf16)
    (hlo : ∀ (i : Fin (2 ^ p)) (q : Fin b) (t : Fin j), i.val = q.val * (2 * j) + t.val → i.val / (2 * j) = q.val →
      lo (ix3 q t c) = if w i then max (run 0 (by omega) L b j h X (ix3 q t c)) (run 1 (by omega) L b j h X (ix3 q t c))
        else min (run 0 (by omega) L b j h X (ix3 q t c)) (run 1 (by omega) L b j h X (ix3 q t c)))
    (hhi : ∀ (i : Fin (2 ^ p)) (q : Fin b) (t : Fin j), i.val = q.val * (2 * j) + t.val → i.val / (2 * j) = q.val →
      hi (ix3 q t c) = if w i then min (run 0 (by omega) L b j h X (ix3 q t c)) (run 1 (by omega) L b j h X (ix3 q t c))
        else max (run 0 (by omega) L b j h X (ix3 q t c)) (run 1 (by omega) L b j h X (ix3 q t c))) :
    column hL (regroup L b j h lo hi) c = Network.apply (stage p s w) (column hL X c) := by
  subst hj
  refine eq_stage hs w _ _ fun i hi0 => ?_
  have hi := split_clear hi0
  have hp := partner_val_of_clear hs i hi0
  have hq : i.val / (2 * 2 ^ s) < b := by
    rw [Nat.div_lt_iff_lt_mul (by positivity), h, hL]
    exact i.isLt
  have e0 : run 0 (by omega) L b (2 ^ s) h X (ix3 ⟨_, hq⟩ ⟨i.val % 2 ^ s, Nat.mod_lt _ (by positivity)⟩ c) = column hL X c i :=
    run_apply _ h X _ _ c _ (by show i.val = _; simpa using hi)
  have e1 : run 1 (by omega) L b (2 ^ s) h X (ix3 ⟨_, hq⟩ ⟨i.val % 2 ^ s, Nat.mod_lt _ (by positivity)⟩ c) = column hL X c (partner p s i) :=
    run_apply _ h X _ _ c _ (by
      show (partner p s i).val = i.val / (2 * 2 ^ s) * (2 * 2 ^ s) + 1 * 2 ^ s + i.val % 2 ^ s
      omega)
  constructor
  · refine (regroup_low h lo _ ⟨_, hq⟩ ⟨i.val % 2 ^ s, Nat.mod_lt _ (by positivity)⟩ c _ hi).trans ?_
    rw [hlo i _ _ hi rfl, e0, e1]
  · refine (regroup_high h lo _ ⟨_, hq⟩ ⟨i.val % 2 ^ s, Nat.mod_lt _ (by positivity)⟩ c _ ?_).trans ?_
    · show (partner p s i).val = i.val / (2 * 2 ^ s) * (2 * 2 ^ s) + 2 ^ s + i.val % 2 ^ s
      omega
    · rw [hhi i _ _ hi rfl, e0, e1]

theorem farMerge_column (hL : L = 2 ^ p) (hs : s < p) (hj : j = 2 ^ s) (h : b * (2 * j) = L) (asc : Bool)
    (X : FVec Ideal (rows L) .bf16) (c : Fin 128) :
    column hL (farMerge L b j h asc X) c = Network.apply (stage p s fun _ => !asc) (column hL X c) := by
  cases asc
  · exact regroup_column hL hs hj h _ X c _ _ (fun _ _ _ _ _ => rfl) (fun _ _ _ _ _ => rfl)
  · exact regroup_column hL hs hj h _ X c _ _ (fun _ _ _ _ _ => rfl) (fun _ _ _ _ _ => rfl)

end far

theorem farSort_column {l s b k j : ℕ} (hl : l < 8) (hs : s ≤ l) (hk : k = 2 ^ (l + 1)) (hj : j = 2 ^ s) (h : b * (2 * j) = 256) (asc : Bool)
    (X : FVec Ideal (rows 256) .bf16) (c : Fin 128) :
    column (p := 8) rfl (farSort 256 b j h k (BitVec.ofBool asc) X) c
      = Network.apply (stage 8 s (descends 8 l asc)) (column (p := 8) rfl X c) := by
  have hj0 : 0 < j := hj ▸ Nat.two_pow_pos s
  have flag : ∀ (i : Fin (2 ^ 8)) (q : Fin b) (t : Fin j), i.val / (2 * j) = q.val →
      broadcastTo (runs b j) (shapeCast (groupFlags b) (groupAsc b j k (BitVec.ofBool asc)) rfl) (bcast_runs b j) (ix3 q t c)
        = BitVec.ofBool (!descends 8 l asc i) := by
    intro i q t hq
    subst hj hk
    rw [groupFlag_apply, groupAsc_apply (by rw [h]; decide) hj0 (Nat.pow_lt_pow_right (by decide) (by omega)), ← hq,
      decide_eq_decide.mpr (group_and (by omega : s < l + 1))]
    unfold descends
    cases asc <;> cases decide (i.val &&& 2 ^ (l + 1) = 0) <;> rfl
  refine regroup_column (p := 8) rfl (by omega) hj h _ X c _ _ (fun i q t _ hq => ?_) (fun i q t _ hq => ?_)
  · show Scalar.select (broadcastTo (runs b j) _ _ (ix3 q t c)) (min _ _) (max _ _) = _
    rw [flag i q t hq]
    cases descends 8 l asc i <;> rfl
  · show Scalar.select (broadcastTo (runs b j) _ _ (ix3 q t c)) (max _ _) (min _ _) = _
    rw [flag i q t hq]
    cases descends 8 l asc i <;> rfl

end Cert.KernelIdeal.Own
-- ==== Proof.Networks.lean ====
/- The sort, the merges and the last selection, read down one lane, are the networks that sort. -/
module

public import proofs.«01_k».proof.Proof.Columns

@[expose] public section

noncomputable section

namespace Cert.KernelIdeal.Own

open Idealize.ShloMosaic Idealize.ShloMosaic.SortNet Cert.KernelIdeal Cert.KernelIdeal.Gen

/-! ## One stage after another -/

section steps

variable {c : Fin 128}

theorem after_near (l s : ℕ) {k j r : ℕ} {h : r + j = 256} {asc : Bool} {X : FVec Ideal (rows 256) .bf16} {v : Fin (2 ^ 8) → EReal}
    (e : column (p := 8) rfl X c = v) (hl : l < 8 := by decide) (hs : s ≤ l := by decide) (hk : k = 2 ^ (l + 1) := by rfl)
    (hj : j = 2 ^ s := by rfl) :
    column (p := 8) rfl (sortNear k j r h (BitVec.ofBool asc) X) c = Network.apply (stage 8 s (descends 8 l asc)) v :=
  e ▸ sortNear_column hl hs hk hj h asc X c

theorem after_far (l s : ℕ) {b k j : ℕ} {h : b * (2 * j) = 256} {asc : Bool} {X : FVec Ideal (rows 256) .bf16} {v : Fin (2 ^ 8) → EReal}
    (e : column (p := 8) rfl X c = v) (hl : l < 8 := by decide) (hs : s ≤ l := by decide) (hk : k = 2 ^ (l + 1) := by rfl)
    (hj : j = 2 ^ s := by rfl) :
    column (p := 8) rfl (farSort 256 b j h k (BitVec.ofBool asc) X) c = Network.apply (stage 8 s (descends 8 l asc)) v :=
  e ▸ farSort_column hl hs hk hj h asc X c

theorem after_merge {p L : ℕ} {hL : L = 2 ^ p} (s : ℕ) {b j : ℕ} {h : b * (2 * j) = L} {asc : Bool} {X : FVec Ideal (rows L) .bf16}
    {v : Fin (2 ^ p) → EReal} (e : column hL X c = v) (hs : s < p := by decide) (hj : j = 2 ^ s := by rfl) :
    column hL (farMerge L b j h asc X) c = Network.apply (stage p s fun _ => !asc) v :=
  e ▸ farMerge_column hL hs hj h asc X c

theorem after_tail {p L r₁ r₂ r₃ : ℕ} {hL : L = 2 ^ p} {h₁ : r₁ + 4 = L} {h₂ : r₂ + 2 = L} {h₃ : r₃ + 1 = L} {asc : Bool} {m : BitVec 1}
    {X : FVec Ideal (rows L) .bf16} {v : Fin (2 ^ p) → EReal} (e : column hL X c = v) (hm : m = BitVec.ofBool asc)
    (hp : p ≤ 31 := by decide) (h2 : 2 < p := by decide) :
    column hL (mergeTail L r₁ r₂ r₃ h₁ h₂ h₃ m X) c = Network.apply (stage p 0 fun _ => !asc)
      (Network.apply (stage p 1 fun _ => !asc) (Network.apply (stage p 2 fun _ => !asc) v)) := by
  subst hm e
  unfold mergeTail
  rw [mergeNear_column hL hp (s := 0) (j := 1) (by omega) rfl, mergeNear_column hL hp (s := 1) (j := 2) (by omega) rfl,
    mergeNear_column hL hp (s := 2) (j := 4) h2 rfl]

end steps

/-! ## The sort and the merges -/

/-- The merge of a bitonic vector, ascending if `asc`. -/
def mergeNet (p : ℕ) (asc : Bool) : Network (2 ^ p) := (List.range p).reverse.flatMap fun s => stage p s fun _ => !asc

/-- A device's sort of its rows. -/
theorem sortRows_column (asc : Bool) (X : FVec Ideal (rows 256) .bf16) (c : Fin 128) :
    column (p := 8) rfl (sortRows (BitVec.ofBool asc) X) c = Network.apply (sortNet 8 !asc) (column (p := 8) rfl X c) := by
  have e : sortNet 8 (!asc) = (List.range 8).flatMap fun l => (List.range (l + 1)).reverse.flatMap fun s => stage 8 s (descends 8 l asc) := rfl
  rw [e]
  simp only [List.range_succ, List.range_zero, List.nil_append, List.cons_append, List.reverse_cons, List.reverse_nil, List.flatMap_cons,
    List.flatMap_nil, List.append_nil, List.reverse_append, Network.apply_append, zero_add]
  exact after_near 7 0 <| after_near 7 1 <| after_near 7 2 <| after_far 7 3 <| after_far 7 4 <| after_far 7 5 <| after_far 7 6 <| after_far 7 7 <|
    after_near 6 0 <| after_near 6 1 <| after_near 6 2 <| after_far 6 3 <| after_far 6 4 <| after_far 6 5 <| after_far 6 6 <|
    after_near 5 0 <| after_near 5 1 <| after_near 5 2 <| after_far 5 3 <| after_far 5 4 <| after_far 5 5 <|
    after_near 4 0 <| after_near 4 1 <| after_near 4 2 <| after_far 4 3 <| after_far 4 4 <|
    after_near 3 0 <| after_near 3 1 <| after_near 3 2 <| after_far 3 3 <|
    after_near 2 0 <| after_near 2 1 <| after_near 2 2 <| after_near 1 0 <| after_near 1 1 <| after_near 0 0 rfl

theorem merge256_column (X : FVec Ideal (rows 256) .bf16) (c : Fin 128) :
    column (p := 8) rfl (merge256 X) c = Network.apply (mergeNet 8 true) (column (p := 8) rfl X c) := by
  unfold mergeNet
  simp only [List.range_succ, List.range_zero, List.nil_append, List.cons_append, List.reverse_cons, List.reverse_nil, List.flatMap_cons,
    List.flatMap_nil, List.append_nil, List.reverse_append, Network.apply_append]
  exact after_tail (after_merge 3 <| after_merge 4 <| after_merge 5 <| after_merge 6 <| after_merge 7 rfl) rfl

theorem merge512_column (asc : Bool) (X : FVec Ideal (rows 512) .bf16) (c : Fin 128) :
    column (p := 9) rfl (merge512 asc X) c = Network.apply (mergeNet 9 asc) (column (p := 9) rfl X c) := by
  unfold mergeNet
  simp only [List.range_succ, List.range_zero, List.nil_append, List.cons_append, List.reverse_cons, List.reverse_nil, List.flatMap_cons,
    List.flatMap_nil, List.append_nil, List.reverse_append, Network.apply_append]
  exact after_tail (after_merge 3 <| after_merge 4 <| after_merge 5 <| after_merge 6 <| after_merge 7 <| after_merge 8 rfl) (by cases asc <;> rfl)

theorem merge1024_column (asc : Bool) (X : FVec Ideal (rows 1024) .bf16) (c : Fin 128) :
    column (p := 10) rfl (merge1024 asc X) c = Network.apply (mergeNet 10 asc) (column (p := 10) rfl X c) := by
  unfold mergeNet
  simp only [List.range_succ, List.range_zero, List.nil_append, List.cons_append, List.reverse_cons, List.reverse_nil, List.flatMap_cons,
    List.flatMap_nil, List.append_nil, List.reverse_append, Network.apply_append]
  exact after_tail (after_merge 3 <| after_merge 4 <| after_merge 5 <| after_merge 6 <| after_merge 7 <| after_merge 8 <| after_merge 9 rfl)
    (by cases asc <;> rfl)

/-! ## What the networks do -/

/-- A vector is in order: ascending if `asc`, else descending. -/
def Ordered {n : ℕ} (asc : Bool) (v : Fin n → EReal) : Prop :=
  match asc with
  | true => Monotone v
  | false => Antitone v

theorem ordered_sortNet (asc : Bool) (v : Fin (2 ^ 8) → EReal) : Ordered asc (Network.apply (sortNet 8 !asc) v) := by
  cases asc
  · exact sortNet_apply_antitone 8 v
  · exact sortNet_apply_monotone 8 v

theorem ordered_mergeNet (p : ℕ) (asc : Bool) (v : Fin (2 ^ p) → EReal) (hv : DescAsc v) : Ordered asc (Network.apply (mergeNet p asc) v) := by
  cases asc
  · exact mergeDescNet_apply_antitone p v hv
  · exact mergeAscNet_apply_monotone p v hv

/-- The ascending merge, one half at a time: the lesser entries of the halves make its lower half, the greater its upper. -/
theorem mergeAsc_half (q : ℕ) (v : Fin (2 ^ (q + 1)) → EReal) (j : Fin (2 ^ q)) :
    Network.apply (mergeNet (q + 1) true) v (lowerPos q j)
        = Network.apply (mergeNet q true) (fun j => min (v (lowerPos q j)) (v (upperPos q j))) j ∧
      Network.apply (mergeNet (q + 1) true) v (upperPos q j)
        = Network.apply (mergeNet q true) (fun j => max (v (lowerPos q j)) (v (upperPos q j))) j := by
  have e : ∀ q, mergeNet q true = (mergeDescNet q).map Cmpx.swap := mergeAscNet_eq_map_swap
  have h := apply_mergeDescNet_succ q (fun i => OrderDual.toDual (v i)) j
  rw [e, e, Network.apply_map_swap, Network.apply_map_swap, Network.apply_map_swap, Network.apply_map_swap, h.1, h.2]
  exact ⟨rfl, rfl⟩

/-- One level of the selection picks a half of what the ascending merge leaves. -/
theorem half_column {q H L : ℕ} (hH : H = 2 ^ q) (hL : L = 2 ^ (q + 1)) (h : H + H = L) (low : Bool) (X : FVec Ideal (rows L) .bf16)
    (c : Fin 128) (j : Fin (2 ^ q)) (i : Fin (2 ^ (q + 1))) (hi : i.val = (if low then 0 else 2 ^ q) + j.val) :
    Network.apply (mergeNet q true) (column hH (half H L h (BitVec.ofBool low) X) c) j
      = Network.apply (mergeNet (q + 1) true) (column hL X c) i := by
  have key : ∀ t : Fin (2 ^ q), column hH (half H L h (BitVec.ofBool low) X) c t
      = if BitVec.ofBool low = 1 then min (column hL X c (lowerPos q t)) (column hL X c (upperPos q t))
        else max (column hL X c (lowerPos q t)) (column hL X c (upperPos q t)) := fun t =>
    half_apply h _ X _ _ _ c rfl (by show t.val + 2 ^ q = H + t.val; omega)
  cases low
  · rw [show i = upperPos q j from Fin.ext (by rw [hi, upperPos_val]; exact Nat.add_comm _ _), (mergeAsc_half q _ j).2]
    exact congrArg (Network.apply (mergeNet q true) · j) (funext key)
  · rw [show i = lowerPos q j from Fin.ext (by rw [hi, lowerPos_val]; exact Nat.zero_add _), (mergeAsc_half q _ j).1]
    exact congrArg (Network.apply (mergeNet q true) · j) (funext key)

/-- A device's own block is its part of the ascending merge of all 2048 rows. -/
theorem ownBlock_column (d : Fin 8) (v : BitVec 32) (h0 : bitClear v 0#32 = BitVec.ofBool !d.val.testBit 0)
    (h1 : bitClear v 1#32 = BitVec.ofBool !d.val.testBit 1) (h2 : bitClear v 2#32 = BitVec.ofBool !d.val.testBit 2)
    (X : FVec Ideal (rows 2048) .bf16) (c : Fin 128) (j : Fin (2 ^ 8)) (i : Fin (2 ^ 11)) (hi : i.val = d.val * 256 + j.val) :
    column (p := 8) rfl (ownBlock v X) c j = Network.apply (mergeNet 11 true) (column (p := 11) rfl X c) i := by
  have hj : j.val < 256 := j.isLt
  have b0 : (if !d.val.testBit 0 then 0 else 2 ^ 8) ≤ 256 := by split <;> decide
  have b1 : (if !d.val.testBit 1 then 0 else 2 ^ 9) ≤ 512 := by split <;> decide
  have hd : d.val * 256 = (if !d.val.testBit 2 then 0 else 2 ^ 10) + ((if !d.val.testBit 1 then 0 else 2 ^ 9)
      + (if !d.val.testBit 0 then 0 else 2 ^ 8)) := by
    clear h0 h1 h2 hi b0 b1; revert d; decide
  unfold ownBlock
  rw [merge256_column, h0, h1, h2,
    half_column (q := 8) (H := 256) (L := 512) rfl rfl rfl _ _ c j ⟨(if !d.val.testBit 0 then 0 else 2 ^ 8) + j.val, by omega⟩ rfl,
    half_column (q := 9) (H := 512) (L := 1024) rfl rfl rfl _ _ c _ ⟨(if !d.val.testBit 1 then 0 else 2 ^ 9) + ((if !d.val.testBit 0 then 0 else 2 ^ 8) + j.val), by omega⟩ rfl]
  exact half_column (q := 10) (H := 1024) (L := 2048) rfl rfl rfl _ _ c _ i (by rw [hi, hd, Nat.add_assoc, Nat.add_assoc])

end Cert.KernelIdeal.Own
-- ==== Proof.Entries.lean ====
/- The entries of a column counted with their multiplicities: what a sort keeps, and why two sorted
   columns with the same entries are equal. -/
module

public import proofs.«01_k».proof.Proof.Networks
public import proofs.«01_k».proof.Proof.Contents

@[expose] public section

noncomputable section

namespace Cert.KernelIdeal.Own

open Idealize.ShloMosaic Idealize.ShloMosaic.SortNet Cert.KernelIdeal Cert.KernelIdeal.Gen

/-- The entries of a vector, with their multiplicities. -/
def entries {n : ℕ} (v : Fin n → EReal) : Multiset EReal := ∑ i, {v i}

theorem entries_eq_ofFn {n : ℕ} (v : Fin n → EReal) : entries v = ↑(List.ofFn v) := by
  unfold entries
  rw [List.ofFn_eq_map]
  show (Multiset.map (fun i => ({v i} : Multiset EReal)) (↑(List.finRange n) : Multiset (Fin n))).sum = _
  rw [← Multiset.map_coe, ← Multiset.sum_map_singleton (Multiset.map v ↑(List.finRange n)), Multiset.map_map]
  rfl

theorem entries_perm {n : ℕ} (v : Fin n → EReal) (σ : Equiv.Perm (Fin n)) : entries (v ∘ σ) = entries v :=
  Equiv.sum_comp σ fun i => ({v i} : Multiset EReal)

/-- A network keeps the entries. -/
theorem entries_apply {n : ℕ} (N : Network n) (v : Fin n → EReal) : entries (Network.apply N v) = entries v := by
  obtain ⟨σ, hσ⟩ := Network.exists_perm N v
  rw [hσ, entries_perm]

/-- Two ascending vectors with the same entries are equal. -/
theorem eq_of_monotone {n : ℕ} {v w : Fin n → EReal} (hv : Monotone v) (hw : Monotone w) (h : entries v = entries w) : v = w := by
  rw [entries_eq_ofFn, entries_eq_ofFn, Multiset.coe_eq_coe] at h
  refine List.ofFn_injective (List.Perm.eq_of_pairwise (le := fun a b => a ≤ b) (fun a b _ _ => le_antisymm) ?_ ?_ h)
  · exact List.pairwise_ofFn.mpr fun i j hij => hv hij.le
  · exact List.pairwise_ofFn.mpr fun i j hij => hw hij.le

/-! ## Two arrays, one under the other -/

section stack

variable {p L M : ℕ} (hL : L = 2 ^ p) (hM : M = 2 ^ (p + 1)) (h : L + L = M) (A B : FVec Ideal (rows L) .bf16) (c : Fin 128)

theorem stack_low (i : Fin (2 ^ (p + 1))) (j : Fin (2 ^ p)) (hij : i.val = j.val) : column hM (stack M h A B) c i = column hL A c j := by
  have : i.val < L := by rw [hij, hL]; exact j.isLt
  refine (dif_pos (show i.val < L from this)).trans ?_
  exact congrArg (fun k : Fin L => A (ix2 k c)) (Fin.ext hij)

theorem stack_high (i : Fin (2 ^ (p + 1))) (j : Fin (2 ^ p)) (hij : i.val = 2 ^ p + j.val) : column hM (stack M h A B) c i = column hL B c j := by
  refine (dif_neg (show ¬i.val < L by omega)).trans ?_
  exact congrArg (fun k : Fin L => B (ix2 k c)) (Fin.ext (show i.val - L = j.val by omega))

theorem entries_stack : entries (column hM (stack M h A B) c) = entries (column hL A c) + entries (column hL B c) := by
  have e : 2 ^ p + 2 ^ p = 2 ^ (p + 1) := by ring
  unfold entries
  rw [← Equiv.sum_comp (finCongr e), Fin.sum_univ_add]
  congr 1
  · exact Finset.sum_congr rfl fun j _ => congrArg _ (stack_low hL hM h A B c _ j rfl)
  · exact Finset.sum_congr rfl fun j _ => congrArg _ (stack_high hL hM h A B c _ j rfl)

/-- An ascending array over a descending one, or the other way about, is what a merge wants. -/
theorem descAsc_stack (a : Bool) (hA : Ordered a (column hL A c)) (hB : Ordered (!a) (column hL B c)) : DescAsc (column hM (stack M h A B) c) := by
  have e : 2 ^ (p + 1) = 2 ^ p + 2 ^ p := by ring
  have low : ∀ i : Fin (2 ^ (p + 1)), (hi : i.val < 2 ^ p) → column hM (stack M h A B) c i = column hL A c ⟨i.val, hi⟩ :=
    fun i hi => stack_low hL hM h A B c i _ rfl
  have high : ∀ i : Fin (2 ^ (p + 1)), (hi : 2 ^ p ≤ i.val) →
      column hM (stack M h A B) c i = column hL B c ⟨i.val - 2 ^ p, by have := i.isLt; omega⟩ :=
    fun i hi => stack_high hL hM h A B c i _ (Nat.add_sub_of_le hi).symm
  cases a
  · refine ⟨2 ^ p, .inl ⟨fun i j hij hj => ?_, fun i j hij hi => ?_⟩⟩
    · rw [low j hj, low i (lt_of_le_of_lt hij hj)]
      exact hA (show i.val ≤ j.val from hij)
    · rw [high j (le_trans hi hij), high i hi]
      exact hB (Nat.sub_le_sub_right (show i.val ≤ j.val from hij) _)
  · refine ⟨2 ^ p, .inr ⟨fun i j hij hj => ?_, fun i j hij hi => ?_⟩⟩
    · rw [low j hj, low i (lt_of_le_of_lt hij hj)]
      exact hA (show i.val ≤ j.val from hij)
    · rw [high j (le_trans hi hij), high i hi]
      exact hB (Nat.sub_le_sub_right (show i.val ≤ j.val from hij) _)

end stack

/-! ## The merges of two sorted arrays -/

/-- An array whose lane `c` is in order and has the entries `E`. -/
structure Sorted {p L : ℕ} (hL : L = 2 ^ p) (c : Fin 128) (asc : Bool) (E : Multiset EReal) (X : FVec Ideal (rows L) .bf16) : Prop where
  ordered : Ordered asc (column hL X c)
  same : entries (column hL X c) = E

theorem stored_eq {L : ℕ} (X : FVec Ideal (rows L) .bf16) : stored L X = X := shapeCast_self ..

theorem sorted_sortRows (asc : Bool) (X : FVec Ideal (rows 256) .bf16) (c : Fin 128) :
    Sorted (p := 8) rfl c asc (entries (column (p := 8) rfl X c)) (sortRows (BitVec.ofBool asc) X) := by
  constructor
  · rw [sortRows_column]
    exact ordered_sortNet asc _
  · rw [sortRows_column, entries_apply]

theorem sorted_merge512 {c : Fin 128} {a : Bool} {E E' : Multiset EReal} {A B : FVec Ideal (rows 256) .bf16} (asc : Bool)
    (hA : Sorted (p := 8) rfl c a E A) (hB : Sorted (p := 8) rfl c (!a) E' B) :
    Sorted (p := 9) rfl c asc (E + E') (stored 512 (merge512 asc (stack 512 rfl A B))) := by
  rw [stored_eq]
  constructor
  · rw [merge512_column]
    exact ordered_mergeNet 9 asc _ (descAsc_stack (p := 8) rfl rfl rfl A B c a hA.ordered hB.ordered)
  · rw [merge512_column, entries_apply, entries_stack (p := 8) (L := 256) (M := 512) rfl rfl rfl A B c, hA.same, hB.same]

theorem sorted_merge1024 {c : Fin 128} {a : Bool} {E E' : Multiset EReal} {A B : FVec Ideal (rows 512) .bf16} (asc : Bool)
    (hA : Sorted (p := 9) rfl c a E A) (hB : Sorted (p := 9) rfl c (!a) E' B) :
    Sorted (p := 10) rfl c asc (E + E') (stored 1024 (merge1024 asc (stack 1024 rfl A B))) := by
  rw [stored_eq]
  constructor
  · rw [merge1024_column]
    exact ordered_mergeNet 10 asc _ (descAsc_stack (p := 9) rfl rfl rfl A B c a hA.ordered hB.ordered)
  · rw [merge1024_column, entries_apply, entries_stack (p := 9) (L := 512) (M := 1024) rfl rfl rfl A B c, hA.same, hB.same]

end Cert.KernelIdeal.Own
-- ==== Proof.Answer.lean ====
/- The kernel's answer: on every device, its block of one ascending column that has the entries of
   all the devices' blocks. -/
module

public import proofs.«01_k».proof.Proof.Entries

@[expose] public section

noncomputable section

namespace Cert.KernelIdeal.Own

open Idealize.ShloMosaic Idealize.ShloMosaic.SortNet Cert.KernelIdeal Cert.KernelIdeal.Gen

/-- Whether a device's number is even. -/
def even (d : Dev nD) : Bool := decide (d.val % 2 = 0)

theorem upwards_number (d : Dev nD) : upwards (number d) = BitVec.ofBool (even d) := by revert d; decide

theorem bitClear_number (d : Dev nD) : bitClear (number d) 0#32 = BitVec.ofBool (!d.val.testBit 0)
    ∧ bitClear (number d) 1#32 = BitVec.ofBool (!d.val.testBit 1) ∧ bitClear (number d) 2#32 = BitVec.ofBool (!d.val.testBit 2) := by
  revert d; decide

theorem hop_hop (d : Dev nD) (t : Fin 8) : hop (hop d t) ⟨d.val, d.isLt⟩ = ⟨t.val, t.isLt⟩ := by revert d t; decide

/-- The devices at all distances from one are all the devices. -/
theorem hop_bijective (d : Dev nD) : Function.Bijective (hop d) := by
  refine Function.Injective.bijective_of_nat_card_le (fun t t' e => ?_) (by simp)
  have h := (hop_hop d t).symm.trans ((congrArg (fun x => hop x ⟨d.val, d.isLt⟩) e).trans (hop_hop d t'))
  exact Fin.ext (congrArg Fin.val h)

section device

variable (m : (ℓ : Loc nD τ sig) → Buf (Elt Ideal) ℓ) (ρ : Dev nD → PrngReg)

/-- Lane `c` of a device's input. -/
def input (d : Dev nD) (c : Fin 128) : Fin (2 ^ 8) → EReal := column (L := 256) rfl (xstg m ρ d) c

/-- A device's block after its own sort. -/
theorem sorted_block (d : Dev nD) (c : Fin 128) {a : Bool} (ha : even d = a) :
    Sorted (p := 8) (L := 256) rfl c a (entries (input m ρ d c)) (sorted m ρ d) := by
  subst ha
  have h := sorted_sortRows (even d) (xstg m ρ d) c
  unfold sorted
  rw [stored_eq, stored_eq, upwards_number]
  exact h

/-- On device `d` the answer is block `d` of an ascending column that has the entries of all inputs. -/
theorem outAt_block (d : Dev nD) (c : Fin 128) : ∃ R : Fin (2 ^ 11) → EReal, Monotone R
    ∧ entries R = ∑ d', entries (input m ρ d' c)
    ∧ ∀ (j : Fin 256) (i : Fin (2 ^ 11)), i.val = d.val * 256 + j.val → outAt m ρ d (ix2 j c) = R i := by
  have par : ∀ t : Fin 8, even (hop d t) = (even d ^^ decide (t.val % 2 = 1)) := by revert d; decide
  have lo : ∀ t : Fin 8, t.val % 2 = 0 → Sorted (p := 8) (L := 256) rfl c (even d) (entries (input m ρ (hop d t) c)) (sorted m ρ (hop d t)) :=
    fun t ht => sorted_block m ρ _ c (by rw [par, decide_eq_false (by omega), Bool.xor_false])
  have hi : ∀ t : Fin 8, t.val % 2 = 1 → Sorted (p := 8) (L := 256) rfl c (!even d) (entries (input m ρ (hop d t) c)) (sorted m ρ (hop d t)) :=
    fun t ht => sorted_block m ρ _ c (by rw [par, decide_eq_true ht, Bool.xor_true])
  have hA := sorted_merge1024 (a := true) true (sorted_merge512 true (lo 0 rfl) (hi 1 rfl)) (sorted_merge512 false (lo 2 rfl) (hi 3 rfl))
  have hB := sorted_merge1024 (a := true) false (sorted_merge512 true (lo 4 rfl) (hi 5 rfl)) (sorted_merge512 false (lo 6 rfl) (hi 7 rfl))
  refine ⟨_, ordered_mergeNet 11 true _ (descAsc_stack (p := 10) (L := 1024) (M := 2048) rfl rfl rfl _ _ c true hA.ordered hB.ordered), ?_, ?_⟩
  · rw [entries_apply, entries_stack (p := 10) (L := 1024) (M := 2048) rfl rfl rfl, hA.same, hB.same,
      ← (hop_bijective d).sum_comp fun d' => entries (input m ρ d' c), Fin.sum_univ_eight]
    simp only [add_assoc]
  · intro j i hij
    obtain ⟨h0, h1, h2⟩ := bitClear_number d
    exact ownBlock_column ⟨d.val, d.isLt⟩ (number d) h0 h1 h2 _ c j i hij

end device

end Cert.KernelIdeal.Own
-- ==== Proof.Reference.lean ====
/- The reference's sort, read down one lane: it ascends, and it keeps the entries. -/
module

public import proofs.«01_k».proof.Proof.Entries
public import proofs.«01_k».proof.ReferenceIdeal
public import Idealize.ShloMosaic.Lib.SortFacts

@[expose] public section

noncomputable section

namespace Cert.KernelIdeal.Own

open Idealize.ShloMosaic

/-- Over the reals the reference's comparator asks whether one entry is less than the other. -/
theorem comparator_eq (x y : EReal) :
    Cert.ReferenceIdeal.comparator_f32_d0 (F := Ideal) x y = BitVec.ofBool (decide (x < y)) := by
  have z : ∀ x y : EReal, Scalar.select (Ideal.cmp .une x x) y
      (Scalar.select (Ideal.cmp .oeq x (FloatOps.ofBits (F := Ideal) .f32 0x00000000#32)) (FloatOps.ofBits (F := Ideal) .f32 0x00000000#32) x)
        = x := by
    intro x y
    have h1 : Ideal.cmp .une x x = 0#1 := by
      show BitVec.ofBool (decide (x ≠ x)) = _
      rw [decide_eq_false (fun h => h rfl)]
      rfl
    rw [h1]
    show Scalar.select (BitVec.ofBool (decide (x = FloatOps.ofBits (F := Ideal) .f32 0x00000000#32))) _ x = x
    by_cases h : x = FloatOps.ofBits (F := Ideal) .f32 0x00000000#32
    · rw [decide_eq_true h]
      exact h.symm
    · rw [decide_eq_false h]
      rfl
  show Ideal.cmp .olt (Scalar.select (Ideal.cmp .une x x) _ (Scalar.select (Ideal.cmp .oeq x _) _ x))
    (Scalar.select (Ideal.cmp .une y y) _ (Scalar.select (Ideal.cmp .oeq y _) _ y)) = _
  rw [z, z]
  rfl

/-- Lane `c` of the reference's result, in the order of its rows. -/
theorem sort_column (X : FVec Ideal Cert.ReferenceIdeal.S2048x128 .f32) (c : Fin 128) :
    Monotone (fun i : Fin 2048 => Host.sort Cert.ReferenceIdeal.S2048x128 0 (Cert.ReferenceIdeal.comparator_f32_d0 (F := Ideal)) X (ix2 i c))
      ∧ entries (fun i : Fin 2048 => Host.sort Cert.ReferenceIdeal.S2048x128 0 (Cert.ReferenceIdeal.comparator_f32_d0 (F := Ideal)) X (ix2 i c))
        = entries (fun i : Fin 2048 => X (ix2 i c)) := by
  have along : ∀ i k : Fin 2048, Shape.Idx.along (s := Cert.ReferenceIdeal.S2048x128) (ix2 i c) (0 : Fin 2) k = ix2 k c := by
    intro i k
    funext a
    unfold Shape.Idx.along
    fin_cases a
    · exact Function.update_self ..
    · exact Function.update_of_ne (by decide) ..
  let before : Fin 2048 → Fin 2048 → Bool := fun k k' => decide (X (ix2 k c) < X (ix2 k' c))
  have e : ∀ i : Fin 2048, Host.sort Cert.ReferenceIdeal.S2048x128 0 (Cert.ReferenceIdeal.comparator_f32_d0 (F := Ideal)) X (ix2 i c)
      = X (ix2 (sortedFrom before i) c) := by
    intro i
    have hb : (fun k k' : Fin 2048 => Cert.ReferenceIdeal.comparator_f32_d0 (F := Ideal)
        (X (Shape.Idx.along (s := Cert.ReferenceIdeal.S2048x128) (ix2 i c) (0 : Fin 2) k))
        (X (Shape.Idx.along (s := Cert.ReferenceIdeal.S2048x128) (ix2 i c) (0 : Fin 2) k')) == 1#1) = before := by
      funext k k'
      rw [along, along, comparator_eq]
      show (BitVec.ofBool (decide _) == 1#1) = decide _
      cases decide (X (ix2 k c) < X (ix2 k' c)) <;> rfl
    show X (Shape.Idx.along (s := Cert.ReferenceIdeal.S2048x128) (ix2 i c) (0 : Fin 2) (sortedFrom (n := 2048)
      (fun k k' : Fin 2048 => Cert.ReferenceIdeal.comparator_f32_d0 (F := Ideal)
        (X (Shape.Idx.along (s := Cert.ReferenceIdeal.S2048x128) (ix2 i c) (0 : Fin 2) k))
        (X (Shape.Idx.along (s := Cert.ReferenceIdeal.S2048x128) (ix2 i c) (0 : Fin 2) k')) == 1#1) i)) = _
    rw [hb, along]
  have hbij : Function.Bijective (sortedFrom before) := ⟨sortedFrom_injective before, sortedFrom_surjective before⟩
  constructor
  · intro i j hij
    show Host.sort Cert.ReferenceIdeal.S2048x128 0 (Cert.ReferenceIdeal.comparator_f32_d0 (F := Ideal)) X (ix2 i c)
      ≤ Host.sort Cert.ReferenceIdeal.S2048x128 0 (Cert.ReferenceIdeal.comparator_f32_d0 (F := Ideal)) X (ix2 j c)
    rw [e, e]
    rcases hij.eq_or_lt with rfl | hlt
    · exact le_refl _
    · have h := sortedFrom_noInversion before before
        (fun a b h => decide_eq_false (not_lt.mpr (le_of_lt (of_decide_eq_true h)))) (fun _ _ h => h)
        (fun a b c' h h' => decide_eq_false (not_lt.mpr (le_trans (not_lt.mp (of_decide_eq_false h')) (not_lt.mp (of_decide_eq_false h)))))
        i j hlt
      exact not_lt.mp (of_decide_eq_false h)
  · have e' : (fun i : Fin 2048 => Host.sort Cert.ReferenceIdeal.S2048x128 0 (Cert.ReferenceIdeal.comparator_f32_d0 (F := Ideal)) X (ix2 i c))
        = (fun i : Fin 2048 => X (ix2 i c)) ∘ Equiv.ofBijective (sortedFrom before) hbij := by
      funext i
      rw [Function.comp_apply, Equiv.ofBijective_apply, e i]
    rw [e']
    exact entries_perm (fun i : Fin 2048 => X (ix2 i c)) (Equiv.ofBijective (sortedFrom before) hbij)

end Cert.KernelIdeal.Own
-- ==== Proof.Equal.lean ====
/- The kernel's answer is the reference's: both are the one ascending arrangement of every column. -/
module

public import proofs.«01_k».proof.Proof.Answer
public import proofs.«01_k».proof.Proof.Reference
public import proofs.«01_k».proof.Proof.Ends
public import Idealize.ShloMosaic.Lib.Layout

@[expose] public section

noncomputable section

namespace Cert.KernelIdeal.Own

open Idealize.ShloMosaic Idealize.ShloMosaic.SortNet Cert.KernelIdeal Cert.KernelIdeal.Gen

/-- The entries of a vector are those of its blocks. -/
theorem entries_blocks {k n N : ℕ} (hN : k * n = N) (v : Fin N → EReal) (b : Fin k → Fin n → EReal)
    (h : ∀ d j (i : Fin N), i.val = d.val * n + j.val → b d j = v i) : ∑ d, entries (b d) = entries v := by
  subst hN
  unfold entries
  rw [← Equiv.sum_comp finProdFinEquiv, Fintype.sum_prod_type]
  refine Finset.sum_congr rfl fun d _ => Finset.sum_congr rfl fun j _ => congrArg _ (h d j _ ?_)
  rw [finProdFinEquiv_apply_val, Nat.mul_comm, Nat.add_comm]

/-- If the devices hold the blocks of one array, the kernel leaves on each its block of the array sorted down its columns. -/
theorem outAt_eq (m : (ℓ : Loc nD τ sig) → Buf (Elt Ideal) ℓ) (ρ : Dev nD → PrngReg) (G : FVec Ideal ⟨2, ![2048, 128]⟩ .bf16)
    (hG : ∀ d : Dev nD, m ((d.tc : Thread nD τ).loc main_arg0) = Layout.block ⟨2, ![256, 128]⟩ ⟨2, ![2048, 128]⟩ 0 8 d G) (d : Dev nD) :
    outAt m ρ d = Layout.block ⟨2, ![256, 128]⟩ ⟨2, ![2048, 128]⟩ 0 8 d
      (Host.sort Cert.ReferenceIdeal.S2048x128 0 (Cert.ReferenceIdeal.comparator_f32_d0 (F := Ideal))
        (extf .f32 G bitsLt_bf16_f32)) := by
  have pos : ∀ (d : Fin 8) (j : Fin 256) (c : Fin 128) (i : Fin 2048) (h : Layout.Tiles ⟨2, ![256, 128]⟩ ⟨2, ![2048, 128]⟩ 0 8),
      i.val = d.val * 256 + j.val → h.idx d (ix2 j c) = ix2 i c := by
    intro d j c i h hi
    funext a
    match a with
    | ⟨0, _⟩ => exact Fin.ext (((Layout.idx_rows_val h d (ix2 j c)).1).trans hi.symm)
    | ⟨1, _⟩ => exact Fin.ext ((Layout.idx_rows_val h d (ix2 j c)).2)
  funext x
  obtain ⟨j, c, rfl⟩ : ∃ (j : Fin 256) (c : Fin 128), x = ix2 j c := ⟨x 0, x 1, (ix2_eta x).symm⟩
  obtain ⟨R, hR, hE, hO⟩ := outAt_block m ρ d c
  obtain ⟨hS, hF⟩ := sort_column (extf .f32 G bitsLt_bf16_f32) c
  have hd : d.val < 8 := d.isLt
  have hj := j.isLt
  have same : R = fun i : Fin 2048 => Host.sort Cert.ReferenceIdeal.S2048x128 0 (Cert.ReferenceIdeal.comparator_f32_d0 (F := Ideal))
      (extf .f32 G bitsLt_bf16_f32) (ix2 i c) := by
    refine eq_of_monotone hR hS (hE.trans (Eq.trans ?_ hF.symm))
    refine entries_blocks (k := 8) (n := 256) (N := 2048) rfl (fun i => G (ix2 i c)) (fun d => input m ρ d c) fun d j i hi => ?_
    show xstg m ρ d (ix2 j c) = _
    rw [xstg_eq]
    exact (congrFun (hG d) _).trans (congrArg G (pos d j c i _ hi))
  rw [hO j ⟨d.val * 256 + j.val, by omega⟩ rfl, same, Layout.block_apply]
  exact congrArg _ (pos d j c ⟨d.val * 256 + j.val, by omega⟩ _ rfl).symm

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed runs, leaves its input unchanged and all counters at zero. -/
theorem frame_kernel : Cert.quiescent_Kernel := fun m ρ _ => Cert.Kernel.Same.run_frame (F := Bits) m ρ

/-- So does the kernel over the reals. -/
theorem frame_ideal : Cert.quiescent_KernelIdeal := fun m ρ _ => Cert.KernelIdeal.Own.run_frame (F := Ideal) m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- If the kernel's devices hold the blocks of the reference's input, they end with the blocks of its result. -/
theorem kernel_sorts : Cert.algebraic_KernelIdeal_ReferenceIdeal := fun m g m' g' _ hin =>
  ⟨_, (θ_run Cert.KernelIdeal.defs _ _).mono
      (fun r h c => ⟨(h.1 c).1.trans (Cert.KernelIdeal.Own.outAt_eq m g _ hin c), (h.1 c).2⟩)
      (Cert.KernelIdeal.Own.run_main (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, kernel_sorts⟩

end Cert.Proof

end
